-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S2048x512 : Shape := ⟨2, ![2048, 512]⟩
abbrev S17 : Shape := ⟨1, ![17]⟩
abbrev S16 : Shape := ⟨1, ![16]⟩
abbrev S_ : Shape := ⟨0, ![]⟩
abbrev S1 : Shape := ⟨1, ![1]⟩
abbrev S32x512 : Shape := ⟨2, ![32, 512]⟩
abbrev S16x512 : Shape := ⟨2, ![16, 512]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x1024, .f32⟩
  | .hbm, ⟨1, _⟩ => ⟨S2048x512, .f32⟩
  | .local _ .vmem, ⟨0, _⟩ => ⟨S1024x1024, .f32⟩
  | .local _ .vmem, ⟨1, _⟩ => ⟨S2048x512, .f32⟩
  | _, _ => ⟨S1024x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v23 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c992_i32 : BitVec 32 := 992#32
  let v8 : BitVec 32 := Scalar.muli v2 c992_i32
  let c1_i32_5 : BitVec 32 := 1#32
  let c2_i32_4 : BitVec 32 := 2#32
  let v9 : BitVec 32 := Scalar.muli c2_i32_4 v2
  let v10 : BitVec 32 := Scalar.subi c1_i32_5 v9
  let v20 : BitVec 32 := Scalar.muli v10 c0_i32_14
  let v21 : BitVec 32 := Scalar.addi v8 v20
  let v24 : BitVec 32 := Scalar.addi v23 v21
  let c0_i32_20 : BitVec 32 := 0#32
  ![v24.toNat, 0]
def k0_off2 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c992_i32 : BitVec 32 := 992#32
  let v8 : BitVec 32 := Scalar.muli v2 c992_i32
  let c1_i32_5 : BitVec 32 := 1#32
  let c2_i32_4 : BitVec 32 := 2#32
  let v9 : BitVec 32 := Scalar.muli c2_i32_4 v2
  let v10 : BitVec 32 := Scalar.subi c1_i32_5 v9
  let v20 : BitVec 32 := Scalar.muli v10 c0_i32_14
  let v21 : BitVec 32 := Scalar.addi v8 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c512_i32 : BitVec 32 := 512#32
  let v22 : BitVec 32 := Scalar.muli v6 c512_i32
  ![v21.toNat, v22.toNat]
def k0_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v25 : BitVec 32 := Scalar.muli v2 c2_i32_17
  let v26 : BitVec 32 := Scalar.addi c0_i32_18 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_19 : BitVec 32 := 1#32
  let v27 : BitVec 32 := Scalar.muli v6 c1_i32_19
  let v28 : BitVec 32 := Scalar.addi v26 v27
  v28.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v40 : BitVec 32 := Scalar.muli v2 c2_i32_25
  let v41 : BitVec 32 := Scalar.addi c0_i32_26 v40
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v42 : BitVec 32 := Scalar.muli v6 c1_i32_27
  let v43 : BitVec 32 := Scalar.addi v41 v42
  v43.toNat
def k0_dev5 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v55 : BitVec 32 := Scalar.muli v2 c2_i32_33
  let v56 : BitVec 32 := Scalar.addi c0_i32_34 v55
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v57 : BitVec 32 := Scalar.muli v6 c1_i32_35
  let v58 : BitVec 32 := Scalar.addi v56 v57
  v58.toNat
def k0_dev6 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v70 : BitVec 32 := Scalar.muli v2 c2_i32_40
  let v71 : BitVec 32 := Scalar.addi c0_i32_41 v70
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_42 : BitVec 32 := 1#32
  let v72 : BitVec 32 := Scalar.muli v6 c1_i32_42
  let v73 : BitVec 32 := Scalar.addi v71 v72
  v73.toNat
def k0_dev7 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v85 : BitVec 32 := Scalar.muli v2 c2_i32_47
  let v86 : BitVec 32 := Scalar.addi c0_i32_48 v85
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v87 : BitVec 32 := Scalar.muli v6 c1_i32_49
  let v88 : BitVec 32 := Scalar.addi v86 v87
  v88.toNat
def k0_dev8 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v100 : BitVec 32 := Scalar.muli v2 c2_i32_54
  let v101 : BitVec 32 := Scalar.addi c0_i32_55 v100
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v102 : BitVec 32 := Scalar.muli v6 c1_i32_56
  let v103 : BitVec 32 := Scalar.addi v101 v102
  v103.toNat
def k0_dev9 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v115 : BitVec 32 := Scalar.muli v2 c2_i32_61
  let v116 : BitVec 32 := Scalar.addi c0_i32_62 v115
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_63 : BitVec 32 := 1#32
  let v117 : BitVec 32 := Scalar.muli v6 c1_i32_63
  let v118 : BitVec 32 := Scalar.addi v116 v117
  v118.toNat
def k0_dev10 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v130 : BitVec 32 := Scalar.muli v2 c2_i32_68
  let v131 : BitVec 32 := Scalar.addi c0_i32_69 v130
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_70 : BitVec 32 := 1#32
  let v132 : BitVec 32 := Scalar.muli v6 c1_i32_70
  let v133 : BitVec 32 := Scalar.addi v131 v132
  v133.toNat
def k0_dev11 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v145 : BitVec 32 := Scalar.muli v2 c2_i32_75
  let v146 : BitVec 32 := Scalar.addi c0_i32_76 v145
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_77 : BitVec 32 := 1#32
  let v147 : BitVec 32 := Scalar.muli v6 c1_i32_77
  let v148 : BitVec 32 := Scalar.addi v146 v147
  v148.toNat
def k0_dev12 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v160 : BitVec 32 := Scalar.muli v2 c2_i32_82
  let v161 : BitVec 32 := Scalar.addi c0_i32_83 v160
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v162 : BitVec 32 := Scalar.muli v6 c1_i32_84
  let v163 : BitVec 32 := Scalar.addi v161 v162
  v163.toNat
def k0_dev13 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v175 : BitVec 32 := Scalar.muli v2 c2_i32_89
  let v176 : BitVec 32 := Scalar.addi c0_i32_90 v175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_91 : BitVec 32 := 1#32
  let v177 : BitVec 32 := Scalar.muli v6 c1_i32_91
  let v178 : BitVec 32 := Scalar.addi v176 v177
  v178.toNat
def k0_dev14 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v190 : BitVec 32 := Scalar.muli v2 c2_i32_96
  let v191 : BitVec 32 := Scalar.addi c0_i32_97 v190
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_98 : BitVec 32 := 1#32
  let v192 : BitVec 32 := Scalar.muli v6 c1_i32_98
  let v193 : BitVec 32 := Scalar.addi v191 v192
  v193.toNat
def k0_dev15 (d0 : Dev nD) : Nat :=
  let c0_i32_104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_103 : BitVec 32 := 2#32
  let v205 : BitVec 32 := Scalar.muli v2 c2_i32_103
  let v206 : BitVec 32 := Scalar.addi c0_i32_104 v205
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_105 : BitVec 32 := 1#32
  let v207 : BitVec 32 := Scalar.muli v6 c1_i32_105
  let v208 : BitVec 32 := Scalar.addi v206 v207
  v208.toNat
def k0_dev16 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v220 : BitVec 32 := Scalar.muli v2 c2_i32_110
  let v221 : BitVec 32 := Scalar.addi c0_i32_111 v220
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_112 : BitVec 32 := 1#32
  let v222 : BitVec 32 := Scalar.muli v6 c1_i32_112
  let v223 : BitVec 32 := Scalar.addi v221 v222
  v223.toNat
def k0_dev17 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v235 : BitVec 32 := Scalar.muli v2 c2_i32_117
  let v236 : BitVec 32 := Scalar.addi c0_i32_118 v235
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v237 : BitVec 32 := Scalar.muli v6 c1_i32_119
  let v238 : BitVec 32 := Scalar.addi v236 v237
  v238.toNat
def k0_dev18 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v250 : BitVec 32 := Scalar.muli v2 c2_i32_124
  let v251 : BitVec 32 := Scalar.addi c0_i32_125 v250
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_126 : BitVec 32 := 1#32
  let v252 : BitVec 32 := Scalar.muli v6 c1_i32_126
  let v253 : BitVec 32 := Scalar.addi v251 v252
  v253.toNat
def k0_dev19 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v265 : BitVec 32 := Scalar.muli v2 c2_i32_132
  let v266 : BitVec 32 := Scalar.addi c0_i32_133 v265
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_134 : BitVec 32 := 1#32
  let v267 : BitVec 32 := Scalar.muli v6 c1_i32_134
  let v268 : BitVec 32 := Scalar.addi v266 v267
  v268.toNat
def k0_off3 (d0 : Dev nD) (c0_i32_143 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32_142 : BitVec 32 := 1024#32
  let v283 : BitVec 32 := Scalar.muli v6 c1024_i32_142
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c992_i32 : BitVec 32 := 992#32
  let v8 : BitVec 32 := Scalar.muli v2 c992_i32
  let v284 : BitVec 32 := Scalar.addi v283 v8
  let c1_i32_5 : BitVec 32 := 1#32
  let c2_i32_4 : BitVec 32 := 2#32
  let v9 : BitVec 32 := Scalar.muli c2_i32_4 v2
  let v10 : BitVec 32 := Scalar.subi c1_i32_5 v9
  let v285 : BitVec 32 := Scalar.muli v10 c0_i32_143
  let v286 : BitVec 32 := Scalar.addi v284 v285
  let c0_i32_145 : BitVec 32 := 0#32
  let v288 : BitVec 32 := Scalar.addi v286 c0_i32_145
  let c0_i32_151 : BitVec 32 := 0#32
  ![v288.toNat, 0]
def k0_dev20 (d0 : Dev nD) : Nat :=
  let c0_i32_149 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_148 : BitVec 32 := 2#32
  let v289 : BitVec 32 := Scalar.muli v7 c2_i32_148
  let v290 : BitVec 32 := Scalar.addi c0_i32_149 v289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v291 : BitVec 32 := Scalar.muli v5 c1_i32_150
  let v292 : BitVec 32 := Scalar.addi v290 v291
  v292.toNat
def k0_dev21 (d0 : Dev nD) : Nat :=
  let c0_i32_166 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_165 : BitVec 32 := 2#32
  let v313 : BitVec 32 := Scalar.muli v7 c2_i32_165
  let v314 : BitVec 32 := Scalar.addi c0_i32_166 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_167 : BitVec 32 := 1#32
  let v315 : BitVec 32 := Scalar.muli v5 c1_i32_167
  let v316 : BitVec 32 := Scalar.addi v314 v315
  v316.toNat
def k0_dev22 (d0 : Dev nD) : Nat :=
  let c0_i32_183 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_182 : BitVec 32 := 2#32
  let v337 : BitVec 32 := Scalar.muli v7 c2_i32_182
  let v338 : BitVec 32 := Scalar.addi c0_i32_183 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v339 : BitVec 32 := Scalar.muli v5 c1_i32_184
  let v340 : BitVec 32 := Scalar.addi v338 v339
  v340.toNat
def k0_dev23 (d0 : Dev nD) : Nat :=
  let c0_i32_200 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_199 : BitVec 32 := 2#32
  let v361 : BitVec 32 := Scalar.muli v7 c2_i32_199
  let v362 : BitVec 32 := Scalar.addi c0_i32_200 v361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_201 : BitVec 32 := 1#32
  let v363 : BitVec 32 := Scalar.muli v5 c1_i32_201
  let v364 : BitVec 32 := Scalar.addi v362 v363
  v364.toNat
def k0_dev24 (d0 : Dev nD) : Nat :=
  let c0_i32_217 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_216 : BitVec 32 := 2#32
  let v385 : BitVec 32 := Scalar.muli v7 c2_i32_216
  let v386 : BitVec 32 := Scalar.addi c0_i32_217 v385
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_218 : BitVec 32 := 1#32
  let v387 : BitVec 32 := Scalar.muli v5 c1_i32_218
  let v388 : BitVec 32 := Scalar.addi v386 v387
  v388.toNat
def k0_dev25 (d0 : Dev nD) : Nat :=
  let c0_i32_234 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_233 : BitVec 32 := 2#32
  let v409 : BitVec 32 := Scalar.muli v7 c2_i32_233
  let v410 : BitVec 32 := Scalar.addi c0_i32_234 v409
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v411 : BitVec 32 := Scalar.muli v5 c1_i32_235
  let v412 : BitVec 32 := Scalar.addi v410 v411
  v412.toNat
def k0_dev26 (d0 : Dev nD) : Nat :=
  let c0_i32_251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_250 : BitVec 32 := 2#32
  let v433 : BitVec 32 := Scalar.muli v7 c2_i32_250
  let v434 : BitVec 32 := Scalar.addi c0_i32_251 v433
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v435 : BitVec 32 := Scalar.muli v5 c1_i32_252
  let v436 : BitVec 32 := Scalar.addi v434 v435
  v436.toNat
def k0_dev27 (d0 : Dev nD) : Nat :=
  let c0_i32_268 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_267 : BitVec 32 := 2#32
  let v457 : BitVec 32 := Scalar.muli v7 c2_i32_267
  let v458 : BitVec 32 := Scalar.addi c0_i32_268 v457
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_269 : BitVec 32 := 1#32
  let v459 : BitVec 32 := Scalar.muli v5 c1_i32_269
  let v460 : BitVec 32 := Scalar.addi v458 v459
  v460.toNat
def k0_dev28 (d0 : Dev nD) : Nat :=
  let c0_i32_285 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_284 : BitVec 32 := 2#32
  let v481 : BitVec 32 := Scalar.muli v7 c2_i32_284
  let v482 : BitVec 32 := Scalar.addi c0_i32_285 v481
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_286 : BitVec 32 := 1#32
  let v483 : BitVec 32 := Scalar.muli v5 c1_i32_286
  let v484 : BitVec 32 := Scalar.addi v482 v483
  v484.toNat
def k0_dev29 (d0 : Dev nD) : Nat :=
  let c0_i32_302 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_301 : BitVec 32 := 2#32
  let v505 : BitVec 32 := Scalar.muli v7 c2_i32_301
  let v506 : BitVec 32 := Scalar.addi c0_i32_302 v505
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_303 : BitVec 32 := 1#32
  let v507 : BitVec 32 := Scalar.muli v5 c1_i32_303
  let v508 : BitVec 32 := Scalar.addi v506 v507
  v508.toNat
def k0_dev30 (d0 : Dev nD) : Nat :=
  let c0_i32_319 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_318 : BitVec 32 := 2#32
  let v529 : BitVec 32 := Scalar.muli v7 c2_i32_318
  let v530 : BitVec 32 := Scalar.addi c0_i32_319 v529
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_320 : BitVec 32 := 1#32
  let v531 : BitVec 32 := Scalar.muli v5 c1_i32_320
  let v532 : BitVec 32 := Scalar.addi v530 v531
  v532.toNat
def k0_dev31 (d0 : Dev nD) : Nat :=
  let c0_i32_336 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_335 : BitVec 32 := 2#32
  let v553 : BitVec 32 := Scalar.muli v7 c2_i32_335
  let v554 : BitVec 32 := Scalar.addi c0_i32_336 v553
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_337 : BitVec 32 := 1#32
  let v555 : BitVec 32 := Scalar.muli v5 c1_i32_337
  let v556 : BitVec 32 := Scalar.addi v554 v555
  v556.toNat
def k0_dev32 (d0 : Dev nD) : Nat :=
  let c0_i32_353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_352 : BitVec 32 := 2#32
  let v577 : BitVec 32 := Scalar.muli v7 c2_i32_352
  let v578 : BitVec 32 := Scalar.addi c0_i32_353 v577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v579 : BitVec 32 := Scalar.muli v5 c1_i32_354
  let v580 : BitVec 32 := Scalar.addi v578 v579
  v580.toNat
def k0_dev33 (d0 : Dev nD) : Nat :=
  let c0_i32_370 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_369 : BitVec 32 := 2#32
  let v601 : BitVec 32 := Scalar.muli v7 c2_i32_369
  let v602 : BitVec 32 := Scalar.addi c0_i32_370 v601
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_371 : BitVec 32 := 1#32
  let v603 : BitVec 32 := Scalar.muli v5 c1_i32_371
  let v604 : BitVec 32 := Scalar.addi v602 v603
  v604.toNat
def k0_off4 (d0 : Dev nD) (c0_i32_383 : BitVec 32) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32_380 : BitVec 32 := 1024#32
  let v619 : BitVec 32 := Scalar.muli v6 c1024_i32_380
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c992_i32 : BitVec 32 := 992#32
  let v8 : BitVec 32 := Scalar.muli v2 c992_i32
  let v620 : BitVec 32 := Scalar.addi v619 v8
  let c1_i32_5 : BitVec 32 := 1#32
  let c2_i32_4 : BitVec 32 := 2#32
  let v9 : BitVec 32 := Scalar.muli c2_i32_4 v2
  let v10 : BitVec 32 := Scalar.subi c1_i32_5 v9
  let c448_i32_381 : BitVec 32 := 448#32
  let v621 : BitVec 32 := Scalar.muli v10 c448_i32_381
  let v622 : BitVec 32 := Scalar.addi v620 v621
  let v624 : BitVec 32 := Scalar.addi v622 c0_i32_383
  let c0_i32_389 : BitVec 32 := 0#32
  ![v624.toNat, 0]
def k0_dev34 (d0 : Dev nD) : Nat :=
  let c0_i32_387 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_386 : BitVec 32 := 2#32
  let v625 : BitVec 32 := Scalar.muli v7 c2_i32_386
  let v626 : BitVec 32 := Scalar.addi c0_i32_387 v625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_388 : BitVec 32 := 1#32
  let v627 : BitVec 32 := Scalar.muli v5 c1_i32_388
  let v628 : BitVec 32 := Scalar.addi v626 v627
  v628.toNat
def k0_dev35 (d0 : Dev nD) : Nat :=
  let c0_i32_396 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_395 : BitVec 32 := 2#32
  let v637 : BitVec 32 := Scalar.muli v7 c2_i32_395
  let v638 : BitVec 32 := Scalar.addi c0_i32_396 v637
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_397 : BitVec 32 := 1#32
  let v639 : BitVec 32 := Scalar.muli v5 c1_i32_397
  let v640 : BitVec 32 := Scalar.addi v638 v639
  v640.toNat
def k0_off5 (d0 : Dev nD) : Fin 2 → Nat :=
  let c0 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_400 : BitVec 32 := 512#32
  let v647 : BitVec 32 := Scalar.muli v5 c512_i32_400
  let v648 : Index := Scalar.indexCast v647
  ![0, v648.toNat]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_401 : BitVec 32 := 1024#32
  let v651 : BitVec 32 := Scalar.muli v5 c1024_i32_401
  let v652 : Index := Scalar.indexCast v651
  let c0_402 : Index := 0#32
  ![v652.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩

abbrev nBuf : Space → Nat
  | .hbm => 1
  | .vmem => 0
  | .smem => 0
  | _ => 0

abbrev bufTy : (tb : Table) → Fin (tcTables nBuf tb) → BufTy
  | .hbm, ⟨0, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ops.lean ====
/-
The kernel's body as a program over lists: the memrefs and semaphores of every copy, indexed by the copy's number, and the
equality of the printed body with the fold over those numbers.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.Sem

variable {F : FTy → Type} [FloatOps F]

/-! ## Memrefs -/

/-- The staged input and the staged output of a device. -/
abbrev xM : Memref sig .tc .vmem S1024x1024 .f32 := Memref.whole cc0_stg0_0
/-- The staged output of a device. -/
abbrev oM : Memref sig .tc .vmem S2048x512 .f32 := Memref.whole cc0_stg1_0

/-- Chunk `i` of the exchange along `y`, sent by device `d`: where it lands, -/
abbrev dstY (d : Dev nD) (i : Fin 17) : Memref sig .tc .vmem S32x512 .f32 :=
  oM.slice (Rect.unit (s := S2048x512) (k0_off1 d (BitVec.ofNat 32 (32 * i.val))) S32x512.size (k0_off1_inb d i)) (fun _ => rfl)
/-- and where it is read. -/
abbrev srcY (d : Dev nD) (i : Fin 17) : Memref sig .tc .vmem S32x512 .f32 :=
  xM.slice (Rect.unit (s := S1024x1024) (k0_off2 d (BitVec.ofNat 32 (32 * i.val))) S32x512.size (k0_off2_inb d i)) (fun _ => rfl)
/-- Piece `j < 14` forwarded along `x`: read and landing at the same rows. -/
abbrev pieX (d : Dev nD) (j : Fin 14) : Memref sig .tc .vmem S32x512 .f32 :=
  oM.slice (Rect.unit (s := S2048x512) (k0_off3 d (BitVec.ofNat 32 (32 * j.val))) S32x512.size (k0_off3_inb d j)) (fun _ => rfl)
/-- The last chunk is forwarded in two halves. -/
abbrev halX (d : Dev nD) (r : Fin 2) : Memref sig .tc .vmem S16x512 .f32 :=
  oM.slice (Rect.unit (s := S2048x512) (k0_off4 d (BitVec.ofNat 32 (16 * r.val))) S16x512.size (k0_off4_inb d r)) (fun _ => rfl)

/-! ## Semaphores -/

/-- The barrier semaphore. -/
abbrev barS : Sem sig := (SemArray.scalar (sig.barrier 0 rfl) : Sems sig S_).sem

/-- Each of seventeen semaphores lies in its array. -/
theorem inb17 (i : Fin 17) : ∀ a, (![i.val] : Fin 1 → Nat) a + S1.size a ≤ S17.size a := by revert i; decide
/-- Each of sixteen semaphores lies in its array. -/
theorem inb16 (i : Fin 16) : ∀ a, (![i.val] : Fin 1 → Nat) a + S1.size a ≤ S16.size a := by revert i; decide

/-- Semaphore `i` of an array of seventeen. -/
abbrev at17 (A : DmaSems sig S17) (i : Fin 17) : DmaSem sig :=
  ((A.slice (Rect.unit (s := S17) ![i.val] S1.size (inb17 i))).squeeze S_ squeezes_S1_S_ : DmaSems sig S_).sem
/-- Semaphore `i` of an array of sixteen. -/
abbrev at16 (A : DmaSems sig S16) (i : Fin 16) : DmaSem sig :=
  ((A.slice (Rect.unit (s := S16) ![i.val] S1.size (inb16 i))).squeeze S_ squeezes_S1_S_ : DmaSems sig S_).sem

/-- Send and receive semaphore of chunk `i` along `y`; of piece `j` along `x`. -/
abbrev ySend (i : Fin 17) : DmaSem sig := at17 cc0_scratch0 i
abbrev yRecv (i : Fin 17) : DmaSem sig := at17 cc0_scratch1 i
abbrev xSend (j : Fin 16) : DmaSem sig := at16 cc0_scratch2 j
abbrev xRecv (j : Fin 16) : DmaSem sig := at16 cc0_scratch3 j

/-! ## The body -/

/-- Programs of the kernel's body. -/
abbrev PK (F : FTy → Type) [FloatOps F] := Prog (TpuEff nD τ sig (Elt F) Λ₀ .tc) PUnit

/-- Issue the chunks of the list along `y`. -/
def sendsY (d : Dev nD) : List (Fin 17) → PK F → PK F
  | [], k => k
  | i :: l, k => .op (.enqueueDma (srcY d i) (.remote (Dev.tc (⟨k0_dev3 d, k0_dev3_lt d⟩ : Dev nD)) (dstY d i) (.dma (ySend i))) (.dma (yRecv i))
      (View.wordExact_bits rfl) (View.wordExact_bits rfl) ⟨⟨rfl, Or.inl rfl⟩, trivial⟩) fun _ => sendsY d l k

/-- Await the chunk and forward it along `x`, for the chunks of the list. -/
def forwards (d : Dev nD) : List (Fin 14) → PK F → PK F
  | [], k => k
  | j :: l, k => .op (.waitDma2 (yRecv (j.castLE (by decide))) (srcY d (j.castLE (by decide))) (dstY d (j.castLE (by decide))) (View.wordExact_bits rfl) (View.wordExact_bits rfl)) fun _ =>
      .op (.enqueueDma (pieX d j) (.remote (Dev.tc (⟨k0_dev20 d, k0_dev20_lt d⟩ : Dev nD)) (pieX d j) (.dma (xSend (j.castLE (by decide))))) (.dma (xRecv (j.castLE (by decide))))
        (View.wordExact_bits rfl) (View.wordExact_bits rfl) ⟨⟨rfl, Or.inl rfl⟩, trivial⟩) fun _ => forwards d l k

/-- Forward the halves of the list. -/
def halves (d : Dev nD) : List (Fin 2) → PK F → PK F
  | [], k => k
  | r :: l, k => .op (.enqueueDma (halX d r) (.remote (Dev.tc (⟨k0_dev20 d, k0_dev20_lt d⟩ : Dev nD)) (halX d r) (.dma (xSend (r.natAdd 14)))) (.dma (xRecv (r.natAdd 14)))
        (View.wordExact_bits rfl) (View.wordExact_bits rfl) ⟨⟨rfl, Or.inl rfl⟩, trivial⟩) fun _ => halves d l k

/-- Await the chunks of the list along `y`, -/
def recvsY (d : Dev nD) : List (Fin 17) → PK F → PK F
  | [], k => k
  | i :: l, k => .op (.waitDma2 (yRecv i) (srcY d i) (dstY d i) (View.wordExact_bits rfl) (View.wordExact_bits rfl)) fun _ => recvsY d l k
/-- and their departures. -/
def sentY (d : Dev nD) : List (Fin 17) → PK F → PK F
  | [], k => k
  | i :: l, k => .op (.waitDma2 (ySend i) (dstY d i) (srcY d i) (View.wordExact_bits rfl) (View.wordExact_bits rfl)) fun _ => sentY d l k

/-- Await the pieces forwarded here and the departures of those forwarded from here. -/
def settleX (d : Dev nD) : List (Fin 14) → PK F → PK F
  | [], k => k
  | j :: l, k => .op (.waitDma2 (xRecv (j.castLE (by decide))) (pieX d j) (pieX d j) (View.wordExact_bits rfl) (View.wordExact_bits rfl)) fun _ =>
      .op (.waitDma2 (xSend (j.castLE (by decide))) (pieX d j) (pieX d j) (View.wordExact_bits rfl) (View.wordExact_bits rfl)) fun _ => settleX d l k
/-- The same for the two halves of the last chunk forwarded. -/
def settleH (d : Dev nD) : List (Fin 2) → PK F → PK F
  | [], k => k
  | r :: l, k => .op (.waitDma2 (xRecv (r.natAdd 14)) (halX d r) (halX d r) (View.wordExact_bits rfl) (View.wordExact_bits rfl)) fun _ =>
      .op (.waitDma2 (xSend (r.natAdd 14)) (halX d r) (halX d r) (View.wordExact_bits rfl) (View.wordExact_bits rfl)) fun _ => settleH d l k

/-- The copy of the device's own columns into its own rows. -/
def copyOwn (d : Dev nD) (k : PK F) : PK F :=
  .op (.load xM (Rect.unit (s := S1024x1024) (k0_off5 d) S1024x512.size (k0_off5_inb d)).toLoadRect (View.loadsAt_vmem h_S1024x512)) fun v =>
  .op (.load oM (Rect.unit (s := S2048x512) (k0_off6 d) S1024x512.size (k0_off6_inb d)).toLoadRect (View.loadsAt_vmem h_S1024x512)) fun _ =>
  .op (.store oM (Rect.unit (s := S2048x512) (k0_off6 d) S1024x512.size (k0_off6_inb d)) (k0_pay1 v) Finset.univ (View.stores_vmem_bits_univ h_S1024x512 rfl) (.inl rfl)) fun _ => k

/-- The numbers of the chunks along `y`. -/
abbrev all17 : List (Fin 17) := [0, 1, 2, 3, 4, 5, 6, 7, 8, 9, 10, 11, 12, 13, 14, 15, 16]
/-- The numbers of the chunks forwarded whole. -/
abbrev all14 : List (Fin 14) := [0, 1, 2, 3, 4, 5, 6, 7, 8, 9, 10, 11, 12, 13]

/-- The body on device `d`, its list phases in program order. -/
def bodyG (d : Dev nD) : PK F :=
  .op (.semSignal (Dev.tc (⟨k0_dev1 d, k0_dev1_lt d⟩ : Dev nD)) barS (1#32).toInt) fun _ =>
  .op (.semSignal (Dev.tc (⟨k0_dev2 d, k0_dev2_lt d⟩ : Dev nD)) barS (1#32).toInt) fun _ =>
  .op (.semWait barS (2#32).toInt) fun _ =>
  sendsY d all17 <| forwards d all14 <| recvsY d [14] <| halves d [0, 1] <| copyOwn d <| recvsY d [15, 16] <| sentY d all17 <|
    settleX d all14 <| settleH d [0, 1] <| .ret ⟨⟩

set_option maxRecDepth 65536 in
set_option maxHeartbeats 0 in
/-- The body is: read the device's number, then run the list phases in order. -/
theorem body_eq : cc0_body (F := F) xM (Memref.isWhole_whole _) oM (Memref.isWhole_whole _) cc0_scratch0 cc0_scratch1 cc0_scratch2 cc0_scratch3
    = .op .deviceId fun d => bodyG d := by
  rw [cc0_body_eq_skeleton]
  rfl

end Cert.KProof

end
-- ==== Proof.Geometry.lean ====
/-
The rows every copy reads and writes, in closed form: what the peers of a device are, which rows of the output each piece
covers, that the pieces are pairwise disjoint, and what the finished output holds.
-/
module

public import proofs.«01_k».proof.Proof.Ops
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.Sem

variable {F : FTy → Type} [FloatOps F]

/-! ## Peers -/

set_option backward.proofsInPublic true in
/-- The device beside `c` along `y`, -/
def Y (c : Dev nD) : Dev nD := ⟨2 * (c.val / 2) + (1 - c.val % 2), by have := c.isLt; change c.val < 4 at this; show _ < 4; omega⟩
set_option backward.proofsInPublic true in
/-- and along `x`. -/
def X (c : Dev nD) : Dev nD := ⟨2 * (1 - c.val / 2) + c.val % 2, by show _ < 4; omega⟩

/-- There are four devices. -/
theorem dev_lt (c : Dev nD) : c.val < 4 := c.isLt
/-- The number of the peer along `y`. -/
theorem Y_val (c : Dev nD) : (Y c).val = 2 * (c.val / 2) + (1 - c.val % 2) := rfl
/-- The number of the peer along `x`. -/
theorem X_val (c : Dev nD) : (X c).val = 2 * (1 - c.val / 2) + c.val % 2 := rfl
/-- The peer along `y` of the peer along `y` is the device itself. -/
theorem Y_Y (c : Dev nD) : Y (Y c) = c := by revert c; decide
/-- Likewise along `x`. -/
theorem X_X (c : Dev nD) : X (X c) = c := by revert c; decide

/-- The first signal goes to the peer along `y`. -/
theorem devY1_eq (c : Dev nD) : (⟨k0_dev1 c, k0_dev1_lt c⟩ : Dev nD) = Y c := by revert c; decide +kernel
/-- The second signal goes to the peer along `x`. -/
theorem devX2_eq (c : Dev nD) : (⟨k0_dev2 c, k0_dev2_lt c⟩ : Dev nD) = X c := by revert c; decide +kernel
/-- The chunks go to the peer along `y`. -/
theorem devY_eq (c : Dev nD) : (⟨k0_dev3 c, k0_dev3_lt c⟩ : Dev nD) = Y c := by revert c; decide +kernel
/-- The forwarded pieces go to the peer along `x`. -/
theorem devX_eq (c : Dev nD) : (⟨k0_dev20 c, k0_dev20_lt c⟩ : Dev nD) = X c := by revert c; decide +kernel

/-! ## Offsets -/

/-- The first row of chunk `i` within its half, on a device of row `c / 2` of the mesh. -/
def rowY (c : Dev nD) (i : ℕ) : ℕ := if c.val / 2 = 0 then 32 * i else 992 - 32 * i

/-- Where chunk `i` lands, as numbers. -/
theorem off1_eq (c : Dev nD) (i : Fin 17) : k0_off1 c (BitVec.ofNat 32 (32 * i.val)) = ![1024 * (c.val % 2) + rowY c i.val, 0] := by
  revert c i; decide +kernel
/-- Where chunk `i` is read. -/
theorem off2_eq (c : Dev nD) (i : Fin 17) : k0_off2 c (BitVec.ofNat 32 (32 * i.val)) = ![rowY c i.val, 512 * (1 - c.val % 2)] := by
  revert c i; decide +kernel
/-- Where piece `j` is read and lands. -/
theorem off3_eq (c : Dev nD) (j : Fin 14) : k0_off3 c (BitVec.ofNat 32 (32 * j.val)) = ![1024 * (1 - c.val % 2) + rowY c j.val, 0] := by
  revert c j; decide +kernel
/-- Where half `r` of chunk 14 is read and lands. -/
theorem off4_eq (c : Dev nD) (r : Fin 2) : k0_off4 c (BitVec.ofNat 32 (16 * r.val)) = ![1024 * (1 - c.val % 2) + rowY c 14 + 16 * r.val, 0] := by
  revert c r; decide +kernel
/-- Where the device's own columns start. -/
theorem off5_eq (c : Dev nD) : k0_off5 c = ![0, 512 * (c.val % 2)] := by revert c; decide +kernel
/-- Where its own rows start. -/
theorem off6_eq (c : Dev nD) : k0_off6 c = ![1024 * (c.val % 2), 0] := by revert c; decide +kernel

/-! ## Rows of the output -/

/-- The elements of the output in the `n` rows from `lo`. -/
def rows (lo n : ℕ) : Finset S2048x512.Idx := Finset.univ.filter fun i => lo ≤ (i 0).val ∧ (i 0).val < lo + n

/-- An element is in the `n` rows from `lo` when its row is. -/
theorem mem_rows {lo n : ℕ} {i : S2048x512.Idx} : i ∈ rows lo n ↔ lo ≤ (i 0).val ∧ (i 0).val < lo + n := by
  unfold rows; rw [Finset.mem_filter]; exact ⟨fun h => h.2, fun h => ⟨Finset.mem_univ _, h⟩⟩

/-- The output has 2048 rows -/
theorem row_lt (i : S2048x512.Idx) : (i 0).val < 2048 := (i 0).isLt
/-- and 512 columns. -/
theorem col_lt (i : S2048x512.Idx) : (i 1).val < 512 := (i 1).isLt

/-- A slice of the output over whole rows is those rows. -/
theorem set_rows {lo n : ℕ} {off : Fin 2 → ℕ} (h : off = ![lo, 0]) (inb : ∀ a, off a + (⟨2, ![n, 512]⟩ : Shape).size a ≤ S2048x512.size a) :
    (oM.slice (Rect.unit (s := S2048x512) off (⟨2, ![n, 512]⟩ : Shape).size inb) (fun _ => rfl) : Memref sig .tc .vmem (⟨2, ![n, 512]⟩ : Shape) .f32).view.set = rows lo n := by
  subst h
  show ((View.whole cc0_stg1_0).slice _).set = _
  rw [View.set_slice_whole]
  ext i
  refine (Rect.mem_set_unit (s := S2048x512)).trans ?_
  rw [mem_rows]
  constructor
  · intro h; exact h 0
  · intro h a
    match a with
    | ⟨0, _⟩ => exact h
    | ⟨1, _⟩ => exact ⟨Nat.zero_le _, by have := col_lt i; show (i 1).val < 0 + 512; omega⟩

/-- Chunk `i` from along `y`, among the rows of `c`'s output. -/
def setY (c : Dev nD) (i : ℕ) : Finset S2048x512.Idx := rows (1024 * (1 - c.val % 2) + rowY c i) 32
/-- Half `r` of chunk 14. -/
def setH (c : Dev nD) (r : ℕ) : Finset S2048x512.Idx := rows (1024 * (1 - c.val % 2) + rowY c 14 + 16 * r) 16
/-- Piece `j` that `c` forwards: chunk `j`, or a half of chunk 14. -/
def setF (c : Dev nD) (j : ℕ) : Finset S2048x512.Idx := if j < 14 then setY c j else setH c (j - 14)
/-- Piece `j` from along `x`, among the rows of `c`'s output. -/
def setX (c : Dev nD) (j : ℕ) : Finset S2048x512.Idx := setF (X c) j

/-- Chunk `i` lands on its rows of the peer's output. -/
theorem dstY_set (c : Dev nD) (i : Fin 17) : (dstY c i).view.set = setY (Y c) i.val := by
  refine (set_rows (n := 32) (off1_eq c i) _).trans ?_
  unfold setY; congr 1
  revert c i; decide +kernel
/-- Piece `j` is read from the rows of chunk `j`. -/
theorem pieX_set (c : Dev nD) (j : Fin 14) : (pieX c j).view.set = setY c j.val := set_rows (n := 32) (off3_eq c j) _
/-- Half `r` is read from its rows. -/
theorem halX_set (c : Dev nD) (r : Fin 2) : (halX c r).view.set = setH c r.val := set_rows (n := 16) (off4_eq c r) _

/-- The rows of piece `j` from along `x`. -/
def loX (c : Dev nD) (j : ℕ) : ℕ := if j < 14 then 1024 * (1 - c.val % 2) + rowY (X c) j else 1024 * (1 - c.val % 2) + rowY (X c) 14 + 16 * (j - 14)
/-- The number of rows of piece `j`. -/
def lenX (j : ℕ) : ℕ := if j < 14 then 32 else 16

/-- The peer along `x` has the same `y` coordinate -/
theorem X_mod (c : Dev nD) : (X c).val % 2 = c.val % 2 := by revert c; decide
/-- and the other `x` coordinate. -/
theorem X_div (c : Dev nD) : (X c).val / 2 = 1 - c.val / 2 := by revert c; decide
/-- The peer along `y` has the other `y` coordinate -/
theorem Y_mod (c : Dev nD) : (Y c).val % 2 = 1 - c.val % 2 := by revert c; decide
/-- and the same `x` coordinate. -/
theorem Y_div (c : Dev nD) : (Y c).val / 2 = c.val / 2 := by revert c; decide

/-- A forwarded piece below 14 is the chunk of that number. -/
theorem setF_up (c : Dev nD) (j : Fin 14) : setF c (j.castLE (by decide) : Fin 16).val = setY c j.val := if_pos j.isLt
/-- The last two forwarded pieces are the halves of chunk 14. -/
theorem setF_half (c : Dev nD) (r : Fin 2) : setF c (r.natAdd 14 : Fin 16).val = setH c r.val := by
  refine (if_neg (show ¬ 14 + r.val < 14 by omega)).trans (congrArg (setH c) ?_)
  show 14 + r.val - 14 = r.val
  omega

/-- Piece `j` from along `x` is a range of rows. -/
theorem setX_eq (c : Dev nD) (j : ℕ) : setX c j = rows (loX c j) (lenX j) := by
  unfold setX setF setY setH loX lenX
  rw [X_mod]
  split <;> rfl

/-- All the pieces of `c`'s output that come from other devices. -/
def piece (c : Dev nD) : Fin 17 ⊕ Fin 16 → Finset S2048x512.Idx
  | .inl i => setY c i.val
  | .inr j => setX c j.val

/-- An element is in piece `j` from along `x` when its row is in the range. -/
theorem mem_setX {c : Dev nD} {j : ℕ} {i : S2048x512.Idx} : i ∈ setX c j ↔ loX c j ≤ (i 0).val ∧ (i 0).val < loX c j + lenX j := by
  rw [setX_eq]; exact mem_rows

/-- A chunk from along `y` and a piece from along `x` share no row. -/
theorem setY_setX_disj (c : Dev nD) (b : Fin 17) (b' : Fin 16) : Disjoint (setY c b.val) (setX c b'.val) := by
  rw [Finset.disjoint_left]
  intro i h1 h2
  have hc := dev_lt c
  have hb := b.isLt; have hb' := b'.isLt
  have h1 := mem_rows.mp h1; have h2 := mem_setX.mp h2
  unfold loX lenX at h2; unfold rowY at h1 h2
  rw [X_div] at h2
  by_cases e : c.val / 2 = 0
  · have e' : ¬ 1 - c.val / 2 = 0 := by omega
    by_cases e1 : b'.val < 14 <;> simp only [e', e1, if_true, if_false] at h2 <;> simp only [e, if_true] at h1 <;> omega
  · have e' : 1 - c.val / 2 = 0 := by omega
    by_cases e1 : b'.val < 14 <;> simp only [e', e1, if_true, if_false] at h2 <;> simp only [e, if_false] at h1 <;> omega

/-- The pieces are pairwise disjoint. -/
theorem piece_disj (c : Dev nD) (b b' : Fin 17 ⊕ Fin 16) (h : b ≠ b') : Disjoint (piece c b) (piece c b') := by
  cases b with
  | inl b =>
    cases b' with
    | inl b' =>
      rw [Finset.disjoint_left]
      intro i h1 h2
      have hb := b.isLt; have hb' := b'.isLt
      have hn : b.val ≠ b'.val := fun e => h (congrArg _ (Fin.ext e))
      have h1 := mem_rows.mp h1; have h2 := mem_rows.mp h2
      unfold rowY at h1 h2
      by_cases e : c.val / 2 = 0 <;> simp only [e, if_true, if_false] at h1 h2 <;> omega
    | inr b' => exact setY_setX_disj c b b'
  | inr b =>
    cases b' with
    | inl b' => exact (setY_setX_disj c b' b).symm
    | inr b' =>
      rw [Finset.disjoint_left]
      intro i h1 h2
      have hb := b.isLt; have hb' := b'.isLt
      have hn : b.val ≠ b'.val := fun e => h (congrArg _ (Fin.ext e))
      have h1 := mem_setX.mp (show i ∈ setX c b.val from h1); have h2 := mem_setX.mp (show i ∈ setX c b'.val from h2)
      unfold loX lenX rowY at h1 h2
      rw [X_div] at h1 h2
      by_cases e : 1 - c.val / 2 = 0 <;> by_cases e1 : b.val < 14 <;> by_cases e2 : b'.val < 14 <;>
        simp only [e, e1, if_true, if_false] at h1 <;> simp only [e, e2, if_true, if_false] at h2 <;> omega

/-- Every row of the half that comes from other devices is in a piece. -/
theorem piece_cover (c : Dev nD) (i : S2048x512.Idx) (h : (i 0).val / 1024 = 1 - c.val % 2) : ∃ b, i ∈ piece c b := by
  have hc := dev_lt c
  have hr := row_lt i
  by_cases e : c.val / 2 = 0
  · by_cases e1 : (i 0).val % 1024 < 544
    · refine ⟨.inl ⟨(i 0).val % 1024 / 32, by omega⟩, mem_rows.mpr ?_⟩
      unfold rowY; rw [if_pos e]; dsimp only; omega
    · by_cases e2 : (i 0).val % 1024 < 576
      · refine ⟨.inr ⟨14 + ((i 0).val % 1024 - 544) / 16, by omega⟩, ?_⟩
        show i ∈ setX c _
        rw [setX_eq]; refine mem_rows.mpr ?_
        unfold loX lenX rowY; rw [X_div]; dsimp only
        rw [if_neg (by omega), if_neg (by omega), if_neg (by omega)]; omega
      · refine ⟨.inr ⟨(1023 - (i 0).val % 1024) / 32, by omega⟩, ?_⟩
        show i ∈ setX c _
        rw [setX_eq]; refine mem_rows.mpr ?_
        unfold loX lenX rowY; rw [X_div]; dsimp only
        rw [if_pos (by omega), if_neg (by omega), if_pos (by omega)]; omega
  · by_cases e1 : 480 ≤ (i 0).val % 1024
    · refine ⟨.inl ⟨(1023 - (i 0).val % 1024) / 32, by omega⟩, mem_rows.mpr ?_⟩
      unfold rowY; rw [if_neg e]; dsimp only; omega
    · by_cases e2 : 448 ≤ (i 0).val % 1024
      · refine ⟨.inr ⟨14 + ((i 0).val % 1024 - 448) / 16, by omega⟩, ?_⟩
        show i ∈ setX c _
        rw [setX_eq]; refine mem_rows.mpr ?_
        unfold loX lenX rowY; rw [X_div]; dsimp only
        rw [if_neg (by omega), if_pos (by omega), if_neg (by omega)]; omega
      · refine ⟨.inr ⟨(i 0).val % 1024 / 32, by omega⟩, ?_⟩
        show i ∈ setX c _
        rw [setX_eq]; refine mem_rows.mpr ?_
        unfold loX lenX rowY; rw [X_div]; dsimp only
        rw [if_pos (by omega), if_pos (by omega), if_pos (by omega)]; omega

/-- A row of a piece is in the half that comes from other devices. -/
theorem piece_half (c : Dev nD) (b : Fin 17 ⊕ Fin 16) (i : S2048x512.Idx) (h : i ∈ piece c b) : (i 0).val / 1024 = 1 - c.val % 2 := by
  cases b with
  | inl b =>
    have hb := b.isLt
    have h := mem_rows.mp h
    unfold rowY at h
    split at h <;> omega
  | inr b =>
    have hb := b.isLt
    have h := mem_setX.mp (show i ∈ setX c b.val from h)
    unfold loX lenX rowY at h
    by_cases e : (X c).val / 2 = 0 <;> by_cases e1 : b.val < 14 <;> simp only [e, e1, if_true, if_false] at h <;> omega

/-- Chunk 14 is its two halves. -/
theorem setH_union (c : Dev nD) : setY c 14 = setH c 0 ∪ setH c 1 := by
  ext i
  rw [Finset.mem_union]
  unfold setY setH
  rw [mem_rows, mem_rows, mem_rows]; omega
/-- The two halves of chunk 14 share no row. -/
theorem setH_disj (c : Dev nD) : Disjoint (setH c 0) (setH c 1) := by
  rw [Finset.disjoint_left]
  intro i h1 h2
  have h1 := mem_rows.mp h1; have h2 := mem_rows.mp h2; omega

/-! ## The input's columns that are sent -/

/-- The elements chunk `i` reads are a rectangle of the input. -/
theorem srcY_set (c : Dev nD) (i : Fin 17) :
    (srcY c i).view.set = (Rect.unit (s := S1024x1024) (k0_off2 c (BitVec.ofNat 32 (32 * i.val))) S32x512.size (k0_off2_inb c i)).set := View.set_slice_whole _ _

/-- Different chunks read different elements. -/
theorem srcY_disj (c : Dev nD) (i i' : Fin 17) (h : i ≠ i') : Disjoint (srcY c i).view.set (srcY c i').view.set := by
  have hn : i.val ≠ i'.val := fun e => h (Fin.ext e)
  have hi := i.isLt; have hi' := i'.isLt
  rw [srcY_set, srcY_set, Finset.disjoint_left]
  intro x h1 h2
  have h1 := (Rect.mem_set_unit (s := S1024x1024)).mp h1 0
  have h2 := (Rect.mem_set_unit (s := S1024x1024)).mp h2 0
  rw [off2_eq] at h1 h2
  change rowY c i.val ≤ (x 0).val ∧ (x 0).val < rowY c i.val + 32 at h1
  change rowY c i'.val ≤ (x 0).val ∧ (x 0).val < rowY c i'.val + 32 at h2
  unfold rowY at h1 h2
  by_cases e : c.val / 2 = 0 <;> simp only [e, if_true, if_false] at h1 h2 <;> omega

/-- The columns a device copies for itself. -/
abbrev ownX (c : Dev nD) : Rect S1024x1024 := Rect.unit (s := S1024x1024) (k0_off5 c) S1024x512.size (k0_off5_inb c)
/-- The rows it copies them to. -/
abbrev ownO (c : Dev nD) : Rect S2048x512 := Rect.unit (s := S2048x512) (k0_off6 c) S1024x512.size (k0_off6_inb c)

/-- The columns a device keeps are none of those it sends. -/
theorem ownX_disj (c : Dev nD) (i : Fin 17) : Disjoint (ownX c).set (srcY c i).view.set := by
  rw [srcY_set, Finset.disjoint_left]
  intro x h1 h2
  have h1 := (Rect.mem_set_unit (s := S1024x1024)).mp h1 1
  have h2 := (Rect.mem_set_unit (s := S1024x1024)).mp h2 1
  rw [off5_eq] at h1; rw [off2_eq] at h2
  change 512 * (c.val % 2) ≤ (x 1).val ∧ (x 1).val < 512 * (c.val % 2) + 512 at h1
  change 512 * (1 - c.val % 2) ≤ (x 1).val ∧ (x 1).val < 512 * (1 - c.val % 2) + 512 at h2
  omega

/-- The elements the own copy writes are a rectangle of the output. -/
theorem ownO_set (c : Dev nD) : (oM.access (ownO c) : View sig .tc _ _ _).set = (ownO c).set := View.set_slice_whole _ _

/-- They are the half of the rows that belongs to the device. -/
theorem mem_ownO (c : Dev nD) (i : S2048x512.Idx) : i ∈ (ownO c).set ↔ (i 0).val / 1024 = c.val % 2 := by
  refine (Rect.mem_set_unit (s := S2048x512)).trans ?_
  rw [off6_eq]
  have h1 := col_lt i; have h0 := row_lt i
  constructor
  · intro h
    have h := h 0
    change 1024 * (c.val % 2) ≤ (i 0).val ∧ (i 0).val < 1024 * (c.val % 2) + 1024 at h
    omega
  · intro h a
    match a with
    | ⟨0, _⟩ => show 1024 * (c.val % 2) ≤ (i 0).val ∧ (i 0).val < 1024 * (c.val % 2) + 1024; omega
    | ⟨1, _⟩ => show 0 ≤ (i 1).val ∧ (i 1).val < 0 + 512; omega

/-! ## Contents -/

/-- The element of an input block at row `r` and column `k`. -/
def ix (r k : ℕ) : S1024x1024.Idx := fun a => ⟨(![r % 1024, k % 1024] : Fin 2 → ℕ) a, by
  match a with
  | ⟨0, _⟩ => exact Nat.mod_lt _ (by decide)
  | ⟨1, _⟩ => exact Nat.mod_lt _ (by decide)⟩

/-- An element is known by its row and column. -/
theorem ix_eq (x : S1024x1024.Idx) (r k : ℕ) (hr : (x 0).val = r % 1024) (hk : (x 1).val = k % 1024) : x = ix r k := by
  funext a
  match a with
  | ⟨0, _⟩ => exact Fin.ext hr
  | ⟨1, _⟩ => exact Fin.ext hk

/-- The device whose input block fills row `r` of `c`'s output: `c` for its own half; otherwise the device beside it along `y`
    or, for the rows that come along `x`, the one diagonally across. -/
def srcDev (c : Dev nD) (r : ℕ) : Dev nD :=
  if r / 1024 = c.val % 2 then c
  else if c.val / 2 = 0 then (if r % 1024 < 544 then Y c else Y (X c))
  else (if 480 ≤ r % 1024 then Y c else Y (X c))

/-- The finished output of `c` over the devices' input blocks `xs`. -/
def outOf (xs : Dev nD → S1024x1024.Idx → Elt F .f32) (c : Dev nD) : S2048x512.Idx → Elt F .f32 := fun i =>
  xs (srcDev c (i 0).val) (ix (i 0).val (512 * (c.val % 2) + (i 1).val))

/-- The rows of a chunk from along `y` are filled by the peer along `y`. -/
theorem srcDev_Y (c : Dev nD) (i : Fin 17) (x : S2048x512.Idx) (h : x ∈ setY c i.val) : srcDev c (x 0).val = Y c := by
  have hh := piece_half c (.inl i) x h
  have h := mem_rows.mp h
  have hi := i.isLt
  unfold rowY at h
  unfold srcDev
  rw [if_neg (by omega)]
  by_cases e : c.val / 2 = 0
  · rw [if_pos e] at h; rw [if_pos e, if_pos (by omega)]
  · rw [if_neg e] at h; rw [if_neg e, if_pos (by omega)]

/-- The rows of a piece from along `x` are filled by the device diagonally across. -/
theorem srcDev_X (c : Dev nD) (j : Fin 16) (x : S2048x512.Idx) (h : x ∈ setX c j.val) : srcDev c (x 0).val = Y (X c) := by
  have hh := piece_half c (.inr j) x h
  have h := mem_setX.mp h
  have hi := j.isLt
  unfold loX lenX rowY at h
  rw [X_div] at h
  unfold srcDev
  rw [if_neg (by omega)]
  by_cases e : c.val / 2 = 0
  · have e' : ¬ 1 - c.val / 2 = 0 := by omega
    rw [if_pos e, if_neg]
    by_cases e1 : j.val < 14 <;> simp only [e', e1, if_true, if_false] at h <;> omega
  · have hc := dev_lt c
    have e' : 1 - c.val / 2 = 0 := by omega
    rw [if_neg e, if_neg]
    by_cases e1 : j.val < 14 <;> simp only [e', e1, if_true, if_false] at h <;> omega

/-- A forwarded piece is part of a chunk from along `y`. -/
theorem setF_sub (c : Dev nD) (j : Fin 16) (x : S2048x512.Idx) (h : x ∈ setF c j.val) : ∃ i : Fin 17, x ∈ setY c i.val := by
  unfold setF at h
  by_cases e : j.val < 14
  · rw [if_pos e] at h; exact ⟨⟨j.val, by omega⟩, h⟩
  · rw [if_neg e] at h
    refine ⟨14, ?_⟩
    have hj := j.isLt
    have h := mem_rows.mp h
    refine mem_rows.mpr ?_
    show 1024 * (1 - c.val % 2) + rowY c 14 ≤ _ ∧ _ < 1024 * (1 - c.val % 2) + rowY c 14 + 32
    omega

/-- What a device forwards is what the output it lands in is to hold there. -/
theorem out_forward (xs : Dev nD → S1024x1024.Idx → Elt F .f32) (c : Dev nD) (j : Fin 16) (x : S2048x512.Idx) (h : x ∈ setF c j.val) :
    outOf xs c x = outOf xs (X c) x := by
  obtain ⟨i, hi⟩ := setF_sub c j x h
  have h2 : x ∈ setX (X c) j.val := by unfold setX; rw [X_X]; exact h
  unfold outOf
  rw [srcDev_Y c i x hi, srcDev_X (X c) j x h2, X_X, X_mod]

/-- The view of a slice of the output writes the payload at the coordinates relative to its offset. -/
theorem write_at {κ : Kind} {sp : Space} {s : Shape} {e : EltTy} (v : View sig κ sp s e) (f : v.ty.Contents (Elt F)) (w : s.Idx → Elt F e) (i : v.ty.Idx) (hi : i ∈ v.set) :
    ∃ x : s.Idx, v.emb x = i ∧ v.write (Elt F) f w Finset.univ i = _root_.cast (congrArg (Elt F) v.elt_eq.symm) (w x) := by
  obtain ⟨x, -, rfl⟩ := Finset.mem_map.mp hi
  exact ⟨x, rfl, View.write_emb_of_mem (Val := Elt F) f w (Finset.mem_univ x)⟩

/-- A chunk sent along `y` lands as the output it lands in is to hold. -/
theorem land_Y (xs : Dev nD → S1024x1024.Idx → Elt F .f32) (c : Dev nD) (i : Fin 17) (fd : S2048x512.Idx → Elt F .f32) (y : S2048x512.Idx) (hy : y ∈ setY (Y c) i.val) :
    (dstY c i).view.write (Elt F) fd ((srcY c i).view.read (Elt F) (xs c)) Finset.univ y = outOf xs (Y c) y := by
  obtain ⟨x, hx, hw⟩ := write_at (F := F) (dstY c i).view fd ((srcY c i).view.read (Elt F) (xs c)) y (by rw [dstY_set]; exact hy)
  refine hw.trans ?_
  show xs c ((srcY c i).view.emb x) = _
  unfold outOf
  rw [srcDev_Y (Y c) i y hy, Y_Y, Y_mod]
  refine congrArg (xs c) (ix_eq _ _ _ ?_ ?_)
  · have e1 : (y 0).val = k0_off1 c (BitVec.ofNat 32 (32 * i.val)) 0 + 1 * (x 0).val := by rw [← hx]; rfl
    show k0_off2 c (BitVec.ofNat 32 (32 * i.val)) 0 + 1 * (x 0).val = _
    rw [off1_eq] at e1; rw [off2_eq, e1]
    have hx0 : (x 0).val < 32 := (x 0).isLt
    have hi := i.isLt
    show rowY c i.val + 1 * (x 0).val = (1024 * (c.val % 2) + rowY c i.val + 1 * (x 0).val) % 1024
    unfold rowY
    split <;> omega
  · have e1 : (y 1).val = k0_off1 c (BitVec.ofNat 32 (32 * i.val)) 1 + 1 * (x 1).val := by rw [← hx]; rfl
    show k0_off2 c (BitVec.ofNat 32 (32 * i.val)) 1 + 1 * (x 1).val = _
    rw [off1_eq] at e1; rw [off2_eq, e1]
    have hx0 : (x 1).val < 512 := (x 1).isLt
    show 512 * (1 - c.val % 2) + 1 * (x 1).val = (512 * (1 - c.val % 2) + (0 + 1 * (x 1).val)) % 1024
    omega

/-- A piece forwarded along `x` lands as the output it lands in is to hold. -/
theorem land_piece (xs : Dev nD → S1024x1024.Idx → Elt F .f32) (c : Dev nD) (j : Fin 14) (fd : S2048x512.Idx → Elt F .f32) (y : S2048x512.Idx) (hy : y ∈ setY c j.val) :
    (pieX c j).view.write (Elt F) fd ((pieX c j).view.read (Elt F) (outOf xs c)) Finset.univ y = outOf xs (X c) y := by
  obtain ⟨x, hx, hw⟩ := write_at (F := F) (pieX c j).view fd ((pieX c j).view.read (Elt F) (outOf xs c)) y (by rw [pieX_set]; exact hy)
  refine hw.trans ?_
  show outOf xs c ((pieX c j).view.emb x) = _
  rw [hx]
  exact out_forward xs c (j.castLE (by decide)) y (by rw [setF_up]; exact hy)

/-- So does a half of chunk 14. -/
theorem land_half (xs : Dev nD → S1024x1024.Idx → Elt F .f32) (c : Dev nD) (r : Fin 2) (fd : S2048x512.Idx → Elt F .f32) (y : S2048x512.Idx) (hy : y ∈ setH c r.val) :
    (halX c r).view.write (Elt F) fd ((halX c r).view.read (Elt F) (outOf xs c)) Finset.univ y = outOf xs (X c) y := by
  obtain ⟨x, hx, hw⟩ := write_at (F := F) (halX c r).view fd ((halX c r).view.read (Elt F) (outOf xs c)) y (by rw [halX_set]; exact hy)
  refine hw.trans ?_
  show outOf xs c ((halX c r).view.emb x) = _
  rw [hx]
  exact out_forward xs c (r.natAdd 14) y (by rw [setF_half]; exact hy)

/-- The device's own copy leaves its own rows as its output is to hold. -/
theorem land_own (xs : Dev nD → S1024x1024.Idx → Elt F .f32) (c : Dev nD) (fd : S2048x512.Idx → Elt F .f32) (y : S2048x512.Idx) (hy : y ∈ (ownO c).set) :
    (oM.access (ownO c) : View sig .tc _ _ _).write (Elt F) fd (k0_pay1 (xM.view.readAt (Elt F) (ownX c).toLoadRect (xs c))) Finset.univ y = outOf xs c y := by
  obtain ⟨x, hx, hw⟩ := write_at (F := F) (oM.access (ownO c) : View sig .tc _ _ _) fd (k0_pay1 (xM.view.readAt (Elt F) (ownX c).toLoadRect (xs c))) y
    (by rw [ownO_set]; exact hy)
  refine hw.trans ?_
  have hp : k0_pay1 (xM.view.readAt (Elt F) (ownX c).toLoadRect (xs c)) x = xs c ((ownX c).emb x) := by
    unfold k0_pay1
    dsimp only
    rw [shapeCast_self]
    rfl
  refine hp.trans ?_
  have hh := (mem_ownO c y).mp hy
  unfold outOf srcDev
  rw [if_pos hh]
  refine congrArg (xs c) (ix_eq _ _ _ ?_ ?_)
  · have e1 : (y 0).val = k0_off6 c 0 + 1 * (x 0).val := by rw [← hx]; rfl
    show k0_off5 c 0 + 1 * (x 0).val = _
    rw [off6_eq] at e1; rw [off5_eq, e1]
    have hx0 : (x 0).val < 1024 := (x 0).isLt
    show 0 + 1 * (x 0).val = (1024 * (c.val % 2) + 1 * (x 0).val) % 1024
    omega
  · have e1 : (y 1).val = k0_off6 c 1 + 1 * (x 1).val := by rw [← hx]; rfl
    show k0_off5 c 1 + 1 * (x 1).val = _
    rw [off6_eq] at e1; rw [off5_eq, e1]
    have hx0 : (x 1).val < 512 := (x 1).isLt
    show 512 * (c.val % 2) + 1 * (x 1).val = (512 * (c.val % 2) + (0 + 1 * (x 1).val)) % 1024
    omega

end Cert.KProof

end
-- ==== Proof.Protocol.lean ====
/-
The protocol of the exchange: which semaphore plays which part, what each credit carries, what each device owes at launch,
and the order of the waits that keeps every device from waiting on itself.
-/
module

public import proofs.«01_k».proof.Proof.Geometry
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The ghost state of the semaphore rounds, -/
abbrev UB : Type := URounds (GSem nD τ sig) Bool
/-- and with it that of the pipeline. -/
abbrev UU : Type := UR sig nD τ × UB

local notation "𝕄" => MT nD τ sig Unit (Elt F) ℕ UU ℕ

/-- The pipeline's ghost state in the whole, -/
abbrev EP : Emb (UR sig nD τ) (MT nD τ sig Unit (Elt F) ℕ UU ℕ) := embL
/-- and that of the rounds. -/
abbrev ER : Emb UB (MT nD τ sig Unit (Elt F) ℕ UU ℕ) := embR

/-- Nothing loops. -/
abbrev 𝒱₀ : Variants := Variants.none

/-- The elements `S` of `c`'s staged input, held at contents `f`; -/
def xPts (c : Dev nD) (S : Finset S1024x1024.Idx) (f : S1024x1024.Idx → Elt F .f32) : sProp 𝕄 :=
  (xM.view.loc (c : Thread nD τ)) ↦[S]{fullShare} (f : Buf (Elt F) (xM.view.loc (c : Thread nD τ)))
/-- and of its staged output. -/
def oPts (c : Dev nD) (S : Finset S2048x512.Idx) (f : S2048x512.Idx → Elt F .f32) : sProp 𝕄 :=
  (oM.view.loc (c : Thread nD τ)) ↦[S]{fullShare} (f : Buf (Elt F) (oM.view.loc (c : Thread nD τ)))

/-- Input elements may be kept in an invariant, -/
instance xPts_storable (c : Dev nD) (S f) : BI.Storable (upEmb : UEmb _ 𝕄) (xPts (F := F) c S f) := by unfold xPts; infer_instance
/-- and output elements. -/
instance oPts_storable (c : Dev nD) (S f) : BI.Storable (upEmb : UEmb _ 𝕄) (oPts (F := F) c S f) := by unfold oPts; infer_instance

/-! ## The parts the semaphores play -/

/-- The barrier; the departure and the arrival of a chunk along `y`; of a piece along `x`; or none of the kernel's. -/
inductive Part
  | none | bar | ys (i : Fin 17) | yr (i : Fin 17) | xs (j : Fin 16) | xr (j : Fin 16)
deriving DecidableEq

/-- The part of a transfer semaphore, by its number. -/
def partD (q : DmaSem sig) : Part :=
  if h : q.val < 2 then .none
  else if h : q.val - 2 < 17 then .ys ⟨q.val - 2, h⟩
  else if h : q.val - 19 < 17 then .yr ⟨q.val - 19, h⟩
  else if h : q.val - 36 < 16 then .xs ⟨q.val - 36, h⟩
  else if h : q.val - 52 < 16 then .xr ⟨q.val - 52, h⟩
  else .none

/-- The part of a semaphore. -/
def part : SemLoc sig → Part
  | .reg _ => .bar
  | .dma q => partD q

/-- The part of a send semaphore along `y`, -/
theorem part_ys (i : Fin 17) : partD (ySend i) = .ys i := by revert i; decide +kernel
/-- of a receive semaphore along `y`, -/
theorem part_yr (i : Fin 17) : partD (yRecv i) = .yr i := by revert i; decide +kernel
/-- of a send semaphore along `x`, -/
theorem part_xs (j : Fin 16) : partD (xSend j) = .xs j := by revert j; decide +kernel
/-- of a receive semaphore along `x`. -/
theorem part_xr (j : Fin 16) : partD (xRecv j) = .xr j := by revert j; decide +kernel

/-- The barrier cell of a device, -/
abbrev barC (c : Dev nD) : GSem nD τ sig := ((c : Thread nD τ), .reg barS)
/-- and a transfer cell. -/
abbrev cell (c : Dev nD) (q : DmaSem sig) : GSem nD τ sig := ((c : Thread nD τ), .dma q)

/-- The credit of a 32-row copy and of a 16-row copy. -/
def N32 : ℕ := (dstY 0 0).view.dmaCredit
/-- The credit of a 16-row copy. -/
def N16 : ℕ := (halX 0 0).view.dmaCredit
/-- The credit of piece `j`. -/
def NX (j : Fin 16) : ℕ := if j.val < 14 then N32 else N16

/-- A 32-row copy pays something, -/
theorem N32_pos : 0 < N32 := View.dmaCredit_pos _ (by decide)
/-- a 16-row copy pays something, -/
theorem N16_pos : 0 < N16 := View.dmaCredit_pos _ (by decide)
/-- and so does every piece. -/
theorem NX_pos (j : Fin 16) : 0 < NX j := by unfold NX; split; exacts [N32_pos, N16_pos]
/-- The first fourteen pieces pay as 32-row copies, -/
theorem NX_up (j : Fin 14) : NX (j.castLE (by decide)) = N32 := if_pos j.isLt
/-- the last two as 16-row copies. -/
theorem NX_half (r : Fin 2) : NX (r.natAdd 14) = N16 := if_neg (show ¬ 14 + r.val < 14 by omega)

/-- What one payment at a cell adds to it. -/
def Part.amt : Part → ℕ
  | .ys _ => N32 | .yr _ => N32 | .xs j => NX j | .xr j => NX j | _ => 1
/-- The payments due at a cell: both peers' at the barrier, one at each transfer cell. -/
def Part.duties : Part → Finset Bool
  | .none => ∅ | .bar => Finset.univ | _ => {false}
/-- The order of the waits: departures, then the barrier, then arrivals along `y`, then along `x`. -/
def Part.lev : Part → ℕ
  | .bar => 1 | .yr _ => 2 | .xr _ => 3 | _ => 0

/-- Every payment adds something. -/
theorem Part.amt_pos (p : Part) : 0 < p.amt := by
  cases p
  exacts [Nat.one_pos, Nat.one_pos, N32_pos, N32_pos, NX_pos _, NX_pos _]

variable (xv : Dev nD → S1024x1024.Idx → Elt F .f32)

/-- What the barrier signal from along `y` hands `c`: the rows of its peer's output that `c` is to fill; -/
def barY (c : Dev nD) : sProp 𝕄 := bigSep Finset.univ fun i : Fin 17 => iprop(∃ f, oPts (F := F) (Y c) (setY (Y c) i.val) f)
/-- from along `x` likewise. -/
def barX (c : Dev nD) : sProp 𝕄 := bigSep Finset.univ fun j : Fin 16 => iprop(∃ f, oPts (F := F) (X c) (setX (X c) j.val) f)

/-- What a credit of device `c` carries: the rows a copy has filled, or the rows it has read. -/
def pay (c : Dev nD) : Part → Bool → sProp 𝕄
  | .none, _ => iprop(emp)
  | .bar, d => if d then barX c else barY c
  | .ys i, _ => xPts c (srcY c i).view.set (xv c)
  | .yr i, _ => oPts c (setY c i.val) (outOf xv c)
  | .xs j, _ => oPts c (setF c j.val) (outOf xv c)
  | .xr j, _ => oPts c (setX c j.val) (outOf xv c)

/-- A departure along `y` gives back the input elements read. -/
theorem pay_ys (c : Dev nD) (i : Fin 17) (d : Bool) : pay xv c (.ys i) d = xPts c (srcY c i).view.set (xv c) := by unfold pay; rfl
/-- An arrival along `y` gives the finished rows of the chunk. -/
theorem pay_yr (c : Dev nD) (i : Fin 17) (d : Bool) : pay xv c (.yr i) d = oPts c (setY c i.val) (outOf xv c) := by unfold pay; rfl
/-- A departure along `x` gives back the rows read. -/
theorem pay_xs (c : Dev nD) (j : Fin 16) (d : Bool) : pay xv c (.xs j) d = oPts c (setF c j.val) (outOf xv c) := by unfold pay; rfl
/-- An arrival along `x` gives the finished rows of the piece. -/
theorem pay_xr (c : Dev nD) (j : Fin 16) (d : Bool) : pay xv c (.xr j) d = oPts c (setX c j.val) (outOf xv c) := by unfold pay; rfl

/-- The elements a copy reads and writes, as elements of the staged input and output. -/
theorem srcY_pts (c e : Dev nD) (i : Fin 17) (f : S1024x1024.Idx → Elt F .f32) :
    ((srcY c i).view.loc (e : Thread nD τ) ↦[(srcY c i).view.set]{fullShare} (f : Buf (Elt F) ((srcY c i).view.loc (e : Thread nD τ))) : sProp 𝕄) = xPts e (srcY c i).view.set f := by
  unfold xPts; rfl
/-- Likewise where chunk `i` lands, -/
theorem dstY_pts (c e : Dev nD) (i : Fin 17) (f : S2048x512.Idx → Elt F .f32) :
    ((dstY c i).view.loc (e : Thread nD τ) ↦[(dstY c i).view.set]{fullShare} (f : Buf (Elt F) ((dstY c i).view.loc (e : Thread nD τ))) : sProp 𝕄) = oPts e (setY (Y c) i.val) f := by
  rw [← dstY_set]; unfold oPts; rfl
/-- where piece `j` is, -/
theorem pieX_pts (c e : Dev nD) (j : Fin 14) (f : S2048x512.Idx → Elt F .f32) :
    ((pieX c j).view.loc (e : Thread nD τ) ↦[(pieX c j).view.set]{fullShare} (f : Buf (Elt F) ((pieX c j).view.loc (e : Thread nD τ))) : sProp 𝕄) = oPts e (setY c j.val) f := by
  rw [← pieX_set]; unfold oPts; rfl
/-- and where half `r` is. -/
theorem halX_pts (c e : Dev nD) (r : Fin 2) (f : S2048x512.Idx → Elt F .f32) :
    ((halX c r).view.loc (e : Thread nD τ) ↦[(halX c r).view.set]{fullShare} (f : Buf (Elt F) ((halX c r).view.loc (e : Thread nD τ))) : sProp 𝕄) = oPts e (setH c r.val) f := by
  rw [← halX_set]; unfold oPts; rfl

/-- Only the contents of the elements held matter. -/
theorem oPts_congr (c : Dev nD) (S : Finset S2048x512.Idx) {f g : S2048x512.Idx → Elt F .f32} (h : ∀ y ∈ S, f y = g y) : oPts c S f = oPts c S g := by
  unfold oPts; exact pointsTo_congr h

/-- What a credit carries may be kept in an invariant; -/
instance pay_storable (c : Dev nD) (p : Part) (d : Bool) : BI.Storable (upEmb : UEmb _ 𝕄) (pay xv c p d) := by
  unfold pay barX barY
  (repeat' split) <;> infer_instance

/-- One round: the barrier cell has a duty for each peer, every transfer cell one duty. -/
def Rd : Rounds.Schedule (GSem nD τ sig) Bool 𝕄 where
  duties g r := if r = 0 ∧ g.1.2 = .tc then (part g.2).duties else ∅
  unitless _ := False
  amount g _ _ := (part g.2).amt
  payload g _ d := pay xv g.1.1 (part g.2) d
  amount_pos g _ _ _ := (part g.2).amt_pos

/-- the same said of the schedule. -/
instance Rd_storable (g : GSem nD τ sig) (r : ℕ) (d : Bool) : BI.Storable (upEmb : UEmb _ 𝕄) ((Rd xv).payload g r d) := by
  show BI.Storable upEmb (pay xv g.1.1 (part g.2) d)
  infer_instance

/-- The payments due at a cell in its only round. -/
theorem duties_at (c : Dev nD) (sm : SemLoc sig) : (Rd xv).duties ((c : Thread nD τ), sm) 0 = (part sm).duties := by
  dsimp only [Rd]; exact if_pos ⟨rfl, rfl⟩
/-- No payment is due after it. -/
theorem duties_later (g : GSem nD τ sig) : ∀ r, 1 ≤ r → (Rd xv).duties g r = ∅ := fun r hr => by
  dsimp only [Rd]; exact if_neg fun h => by omega

/-- The barrier waits for two. -/
theorem expect_bar (c : Dev nD) : (Rd xv).expect (barC c) 0 = 2 := by
  unfold Schedule.expect Schedule.amountOf
  rw [duties_at]
  show ∑ d : Bool, (Part.bar).amt = 2
  rw [Finset.sum_const, Finset.card_univ, Fintype.card_bool]; rfl
/-- A transfer cell waits for one payment. -/
theorem expect_one (c : Dev nD) (sm : SemLoc sig) (h : (part sm).duties = {false}) : (Rd xv).expect ((c : Thread nD τ), sm) 0 = (part sm).amt := by
  unfold Schedule.expect Schedule.amountOf
  rw [duties_at, h, Finset.sum_singleton]; rfl

/-- The barrier's payments carry both peers' rows. -/
theorem rest_bar (c : Dev nD) :
    bigSep ((Rd xv).duties (barC c) 0 \ ∅) (fun d => (Rd xv).payload (barC c) 0 d) = iprop(barY (F := F) c ∗ barX c) := by
  rw [Finset.sdiff_empty, duties_at]
  show bigSep (Finset.univ : Finset Bool) _ = _
  rw [bigSep_univ_eq_bigSepL [false, true] (by decide) (by decide), bigSepL_cons_cons, bigSepL_singleton]
  rfl
/-- A transfer cell's payment carries what its part says. -/
theorem rest_one (c : Dev nD) (sm : SemLoc sig) (h : (part sm).duties = {false}) :
    bigSep ((Rd xv).duties ((c : Thread nD τ), sm) 0 \ ∅) (fun d => (Rd xv).payload ((c : Thread nD τ), sm) 0 d) = pay xv c (part sm) false := by
  rw [Finset.sdiff_empty, duties_at, h, bigSep_singleton]
  rfl

/-! ## Dues -/

/-- What a device still owes, as the list of the credits to come, in the order it pays them. -/
def dues : List (GSem nD τ sig × ℕ) → CellTallies nD τ sig Unit
  | [] => 0
  | p :: l => dues l + tallyAt p.1 () p.2

/-- Dues add up over lists. -/
theorem dues_append (l l' : List (GSem nD τ sig × ℕ)) : dues (l ++ l') = dues l + dues l' := by
  induction l with
  | nil => exact (zero_add _).symm
  | cons p l ih => show dues (l ++ l') + _ = dues l + _ + dues l'; rw [ih, add_right_comm]

/-- A cell something is owed at is in the list. -/
theorem dues_pos {l : List (GSem nD τ sig × ℕ)} {g : GSem nD τ sig} {u : Unit} (h : 0 < dues l g u) : ∃ p ∈ l, p.1 = g := by
  induction l with
  | nil => exact absurd h (Nat.lt_irrefl 0)
  | cons p l ih =>
    have h : 0 < dues l g u + tallyAt p.1 () p.2 g u := h
    rw [tallyAt_apply] at h
    by_cases e : g = p.1 ∧ u = ()
    · exact ⟨p, List.mem_cons_self, e.1.symm⟩
    · rw [if_neg e] at h
      obtain ⟨p', hp', e'⟩ := ih h
      exact ⟨p', List.mem_cons_of_mem _ hp', e'⟩

/-- The arrivals at `e` of the chunks of a list, and of the pieces of a list. -/
def dueY (e : Dev nD) (l : List (Fin 17)) : List (GSem nD τ sig × ℕ) := l.map fun i => (cell e (yRecv i), N32)
/-- The arrivals at `e` of the pieces of a list. -/
def dueX (e : Dev nD) (l : List (Fin 16)) : List (GSem nD τ sig × ℕ) := l.map fun j => (cell e (xRecv j), NX j)

/-- A forwarded chunk among the chunks along `y`, -/
abbrev up17 (j : Fin 14) : Fin 17 := j.castLE (by decide)
/-- and among the pieces along `x`. -/
abbrev up (j : Fin 14) : Fin 16 := j.castLE (by decide)
/-- A half of chunk 14 among the pieces along `x`. -/
abbrev half (r : Fin 2) : Fin 16 := r.natAdd 14
/-- All the pieces along `x`. -/
abbrev all16 : List (Fin 16) := all14.map up ++ [0, 1].map half

/-- What device `c` owes at launch: a signal to each peer, every chunk to its peer along `y`, every piece to its peer along `x`. -/
def O₀ (c : Dev nD) : CellTallies nD τ sig Unit :=
  dues ((barC (Y c), 1) :: (barC (X c), 1) :: (dueY (Y c) all17 ++ dueX (X c) all16))

/-- Every cell of a tensor core is levelled. -/
def L (g : GSem nD τ sig) : Finset Unit := if g.1.2 = .tc then {()} else ∅
/-- The level of a cell is that of its part. -/
def lv (g : GSem nD τ sig) (_ : Unit) : ℕ := (part g.2).lev

/-- No other cell is levelled. -/
theorem L_of_ne (g : GSem nD τ sig) (h : g.1.2 ≠ .tc) : L g = ∅ := if_neg h

/-- A wait on a semaphore of level at most `b` is safe while everything owed is above `b`. -/
theorem mayWait (c : Dev nD) (sm : SemLoc sig) (l : List (GSem nD τ sig × ℕ)) (b : ℕ) (hs : (part sm).lev ≤ b)
    (hl : ∀ p ∈ l, p.1.1.2 = .tc ∧ b < (part p.1.2).lev) : (levAts L lv : sProp 𝕄) ⊢ MayWait (c : Thread nD τ) sm () (dues l) :=
  MayOwe.of_cut (L := L) (lev := lv) b
    (fun p hp => by rw [Finset.mem_singleton.mp hp]; rw [show L ((c : Thread nD τ), sm) = {()} from if_pos rfl]; exact Finset.mem_singleton_self _)
    (fun g u hg => by
      obtain ⟨p, hp, e⟩ := dues_pos hg
      subst e
      rw [show L p.1 = {()} from if_pos (hl p hp).1]
      exact Finset.mem_singleton_self _)
    (fun p hp => by rw [Finset.mem_singleton.mp hp]; exact hs)
    (fun g u hg => by
      obtain ⟨p, hp, e⟩ := dues_pos hg
      subst e
      exact (hl p hp).2)

/-- An arrival along `y` has level 2, -/
theorem mem_dueY {e : Dev nD} {l : List (Fin 17)} {p : GSem nD τ sig × ℕ} (h : p ∈ dueY e l) : p.1.1.2 = .tc ∧ (part p.1.2).lev = 2 := by
  obtain ⟨i, -, rfl⟩ := List.mem_map.mp h
  refine ⟨rfl, ?_⟩
  show (partD (yRecv i)).lev = 2
  rw [part_yr]; rfl
/-- and one along `x` level 3. -/
theorem mem_dueX {e : Dev nD} {l : List (Fin 16)} {p : GSem nD τ sig × ℕ} (h : p ∈ dueX e l) : p.1.1.2 = .tc ∧ (part p.1.2).lev = 3 := by
  obtain ⟨i, -, rfl⟩ := List.mem_map.mp h
  refine ⟨rfl, ?_⟩
  show (partD (xRecv i)).lev = 3
  rw [part_xr]; rfl

/-! ## The cells and the ghost state -/

/-- The kernel's own transfer semaphores, -/
abbrev KX : Type := (Fin 17 ⊕ Fin 17) ⊕ (Fin 16 ⊕ Fin 16)
/-- their numbers among the transfer semaphores, -/
def osemD : KX → DmaSem sig
  | .inl (.inl i) => ySend i | .inl (.inr i) => yRecv i | .inr (.inl j) => xSend j | .inr (.inr j) => xRecv j
/-- and among all semaphores; -/
def osem (k : KX) : SemLoc sig := .dma (osemD k)
/-- and with them the barrier. -/
abbrev CK : Type := Unit ⊕ KX
/-- The semaphore of a cell. -/
def csem : CK → SemLoc sig
  | .inl _ => .reg barS | .inr k => osem k
/-- The cell of a device. -/
abbrev kcell (ck : Dev nD × CK) : GSem nD τ sig := ((ck.1 : Thread nD τ), csem ck.2)

/-- A cell's invariant, at some name. -/
def inv (g : GSem nD τ sig) : sProp 𝕄 := iprop(∃ κ : ℕ, cellInv ER (Rd xv) κ g)
/-- Invariants may be used freely; -/
instance inv_persistent (g : GSem nD τ sig) : BI.Persistent (inv xv g) := by unfold inv; infer_instance

/-- Every cell's invariant, and that every cell has reached its only round. -/
def records : sProp 𝕄 :=
  iprop((bigSep Finset.univ fun ck : Dev nD × CK => inv xv (kcell ck)) ∗ bigSep Finset.univ fun ck : Dev nD × CK => reached ER (kcell ck) 0)
/-- so may the records. -/
instance records_persistent : BI.Persistent (records xv) := by unfold records; infer_instance

/-- The records hold those of every single cell: -/
theorem records_at (ck : Dev nD × CK) : records xv ⊢ iprop(inv xv (kcell ck) ∗ reached ER (kcell ck) 0) := by
  unfold records
  refine BIClass.sep_mono ?_ ?_
  · exact bigSep_elim (Finset.mem_univ ck)
  · exact bigSep_elim (Φ := fun ck : Dev nD × CK => (reached ER (kcell ck) 0 : sProp 𝕄)) (Finset.mem_univ ck)

/-- of the barrier, -/
theorem rec_bar (c : Dev nD) : records xv ⊢ iprop(inv xv (barC c) ∗ reached ER (barC c) 0) := records_at xv (c, .inl ())
/-- of a departure along `y`, -/
theorem rec_ys (c : Dev nD) (i : Fin 17) : records xv ⊢ iprop(inv xv (cell c (ySend i)) ∗ reached ER (cell c (ySend i)) 0) := records_at xv (c, .inr (.inl (.inl i)))
/-- of an arrival along `y`, -/
theorem rec_yr (c : Dev nD) (i : Fin 17) : records xv ⊢ iprop(inv xv (cell c (yRecv i)) ∗ reached ER (cell c (yRecv i)) 0) := records_at xv (c, .inr (.inl (.inr i)))
/-- of a departure along `x`, -/
theorem rec_xs (c : Dev nD) (j : Fin 16) : records xv ⊢ iprop(inv xv (cell c (xSend j)) ∗ reached ER (cell c (xSend j)) 0) := records_at xv (c, .inr (.inr (.inl j)))
/-- and of an arrival along `x`. -/
theorem rec_xr (c : Dev nD) (j : Fin 16) : records xv ⊢ iprop(inv xv (cell c (xRecv j)) ∗ reached ER (cell c (xRecv j)) 0) := records_at xv (c, .inr (.inr (.inr j)))

/-- A transfer cell not yet waited on, and one waited on. -/
def at0 (c : Dev nD) (q : DmaSem sig) : sProp 𝕄 := atPos ER (cell c q) 0 ∅ 0
/-- A transfer cell waited on. -/
def at1 (c : Dev nD) (q : DmaSem sig) : sProp 𝕄 := atPos ER (cell c q) 1 ∅ 0
/-- The right to pay a transfer cell. -/
def tok (c : Dev nD) (q : DmaSem sig) : sProp 𝕄 := dutyTok ER (cell c q) 0 false
/-- The credit of a transfer cell. -/
def crd (c : Dev nD) (q : DmaSem sig) (n : ℕ) : sProp 𝕄 := cred (tallyAt (cell c q) () n)
/-- What a device owes, whatever it has waited on. -/
def owing (c : Dev nD) (l : List (GSem nD τ sig × ℕ)) : sProp 𝕄 := iprop(∃ W, owes (c : Thread nD τ) (dues l) W)

/-- The tokens of the duties device `c` pays. -/
def payToks (c : Dev nD) : sProp 𝕄 :=
  iprop((dutyTok ER (barC (Y c)) 0 false ∗ dutyTok ER (barC (X c)) 0 true)
    ∗ ((bigSep Finset.univ fun i : Fin 17 => tok (F := F) c (ySend i)) ∗ bigSep Finset.univ fun i : Fin 17 => tok (Y c) (yRecv i))
    ∗ ((bigSep Finset.univ fun j : Fin 16 => tok (F := F) c (xSend j)) ∗ bigSep Finset.univ fun j : Fin 16 => tok (X c) (xRecv j)))

/-- The positions of its cells. -/
def poss (c : Dev nD) : sProp 𝕄 := bigSep Finset.univ fun k : CK => atPos ER (kcell (c, k)) 0 ∅ 0

/-- The credits dealt to it at launch. -/
def creds (c : Dev nD) : sProp 𝕄 :=
  iprop(cred (tallyAt (barC c) () 2) ∗ (bigSep Finset.univ fun i : Fin 17 => crd (F := F) c (yRecv i) N32) ∗ bigSep Finset.univ fun j : Fin 16 => crd c (xRecv j) (NX j))

/-- What device `c`'s body starts from. -/
def start (c : Dev nD) : sProp 𝕄 := iprop((records xv ∗ poss c ∗ payToks c) ∗ creds c ∗ levAts L lv)

/-- What it ends with besides the staged arrays: its cells at zero, closed. -/
def ended (c : Dev nD) : sProp 𝕄 := iprop((bigSep Finset.univ fun k : KX => semVal ((c : Thread nD τ), osem k) 0) ∗ semVal (barC c) 0)

end Cert.KProof

end
-- ==== Proof.Phases.lean ====
/-
The phases of the body, each over a list of copies: what a phase needs of every copy of its list, and what it leaves.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xv : Dev nD → S1024x1024.Idx → Elt F .f32)

/-- The program `p` runs on device `c` to `Q`. -/
abbrev runs (c : Dev nD) (p : PK F) (Q : PUnit → sProp 𝕄) : sProp 𝕄 :=
  wp frame (wpE (defs₀ (F := F)) 𝒱₀ (c : Thread nD τ) none) Set.univ p Q

/-! ## One wait, one copy -/

/-- A wait on a transfer semaphore spends its credit and takes what it carries. -/
theorem take (c : Dev nD) (q : DmaSem sig) (n : ℕ) (hd : (partD q).duties = {false}) (ha : (partD q).amt = n)
    {s s' : Shape} {src : Memref sig .tc .vmem s' .f32} {dst : Memref sig .tc .vmem s .f32} {hsrc : src.view.WordExact} {hdst : dst.view.WordExact}
    (hn : dst.view.dmaCredit = n) (l : List (GSem nD τ sig × ℕ)) (hl : ∀ p ∈ l, p.1.1.2 = .tc ∧ (partD q).lev < (part p.1.2).lev)
    {P : sProp 𝕄} (hP : pay xv c (partD q) false = P) {k : PUnit → PK F} {Q : PUnit → sProp 𝕄} :
    iprop(inv xv (cell c q) ∗ levAts L lv ∗ crd c q n ∗ owing c l ∗ at0 c q)
      ⊢ iprop(((owing c l ∗ at1 c q ∗ P) -∗ runs c (k ⟨⟩) Q)
          -∗ runs c (.op (.waitDma2 q src dst hsrc hdst) k) Q) := by
  subst hn
  unfold inv crd owing at0 at1
  iintro ⟨⟨%κ, HI⟩, #Hlev, Hc, ⟨%W, HO⟩, Hat⟩ Hk
  iapply (Rounds.wp_wait_rest_token 𝒱₀ ER (Rd xv) (c : Thread nD τ) none (κ := κ)
      (wpE_waitDma2_eq 𝒱₀ (c : Thread nD τ) none Set.univ) (Set.mem_univ _) () (O := dues l) (W := W) (R := 0) (m := 0) (T := ∅)
      (by rw [Nat.zero_add, expect_one xv c (.dma q) hd]; exact ha.symm)) $$ [HI Hc HO Hat]
  · isplitl [HI]; · iexact HI
    isplitl [Hc]; · iexact Hc
    isplitl [HO]; · iexact HO
    isplitr; · iapply (mayWait c (.dma q) l (partD q).lev le_rfl hl); iexact Hlev
    iexact Hat
  iintro ⟨HO, Hat, -, Hpay⟩
  ihave Hp := (Entails.of_eq ((rest_one xv c (.dma q) hd).trans hP)) $$ Hpay
  iapply Hk
  isplitl [HO]; · iexists _; iexact HO
  isplitl [Hat]; · iexact Hat
  iexact Hp

/-- A copy to device `e` pays its departure and its arrival. -/
theorem put (c n e : Dev nD) (hne : n = e) {s : Shape} (src : Memref sig .tc .vmem s .f32) (dst : Memref sig .tc .vmem s .f32) (qs qr : DmaSem sig) (N : ℕ)
    (hds : (partD qs).duties = {false}) (hdr : (partD qr).duties = {false}) (has : (partD qs).amt = N) (har : (partD qr).amt = N) (hN : dst.view.dmaCredit = N)
    {hsc : dst.view.ref.isScScratch = false} {hsrc : src.view.WordExact} {hdst : dst.view.WordExact}
    {hsem : DmaTarget.Typed (nD := nD) (τ := τ) .vmem (.dma qr) (.remote (Dev.tc n : Thread nD τ) (dst : Memref sig (Dev.tc n : Thread nD τ).2.kind .vmem s .f32) (.dma qs) hsc)}
    (fs : Buf (Elt F) (src.view.loc (c : Thread nD τ))) (fd : Buf (Elt F) (dst.view.loc (e : Thread nD τ))) (l : List (GSem nD τ sig × ℕ))
    (hp1 : (src.view.loc (c : Thread nD τ) ↦[src.view.set]{fullShare} fs) ⊢ pay xv c (partD qs) false)
    (hp2 : (dst.view.loc (e : Thread nD τ) ↦[dst.view.set]{fullShare} (dst.view.write (Elt F) fd (src.view.read (Elt F) fs) Finset.univ)) ⊢ pay xv e (partD qr) false)
    {k : PUnit → PK F} {Q : PUnit → sProp 𝕄} :
    iprop((inv xv (cell c qs) ∗ reached ER (cell c qs) 0) ∗ (inv xv (cell e qr) ∗ reached ER (cell e qr) 0)
        ∗ (src.view.loc (c : Thread nD τ) ↦[src.view.set]{fullShare} fs) ∗ (dst.view.loc (e : Thread nD τ) ↦[dst.view.set]{fullShare} fd)
        ∗ owing c ((cell e qr, N) :: l) ∗ tok c qs ∗ tok e qr)
      ⊢ iprop(((crd c qs N ∗ owing c l) -∗ runs c (k ⟨⟩) Q)
          -∗ runs c (.op (.enqueueDma src (.remote (Dev.tc n : Thread nD τ) dst (.dma qs) hsc) (.dma qr) hsrc hdst hsem) k) Q) := by
  subst hne
  unfold inv crd owing tok
  iintro ⟨⟨⟨%κ, HI⟩, Hr⟩, ⟨⟨%κ', HI'⟩, Hr'⟩, Hs, Hd, ⟨%W, HO⟩, Ht, Ht'⟩ Hk
  have hw := (Rounds.wp_send_pointsTo (defs := defs₀ (F := F)) (Γ := []) (Es := Set.univ) (c' := (n : Thread nD τ)) (src := src) (dst := dst) (sS := .dma qs) (sem := .dma qr) (hsc := hsc) (hsrc := hsrc) (hdst := hdst) (hsem := hsem) (k := k) (Q := Q) (q := fullShare) 𝒱₀ ER (Rd xv) (c : Thread nD τ) none (κ₁ := κ) (κ₂ := κ')
    (r₁ := 0) (r₂ := 0) (d₁ := false) (d₂ := false) (fs := fs) (fd := fd)
    (by rw [duties_at]; exact hds ▸ Finset.mem_singleton_self _) (by rw [duties_at]; exact hdr ▸ Finset.mem_singleton_self _)
    () () N hN has har (dues l) rfl (W := W) hp1 hp2)
  iapply hw $$ [HI Hr HI' Hr' Hs Hd HO Ht Ht']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-! ## Issuing the chunks along `y` -/

/-- What the copy of chunk `i` needs. -/
def sendRes (c : Dev nD) (i : Fin 17) : sProp 𝕄 :=
  iprop(xPts c (srcY c i).view.set (xv c) ∗ (∃ f, oPts (F := F) (Y c) (setY (Y c) i.val) f) ∗ tok c (ySend i) ∗ tok (Y c) (yRecv i))

/-- Issuing the chunks of a list takes what each needs, pays their arrivals and leaves the credit of their departures. -/
theorem sends_phase (c : Dev nD) (R : List (GSem nD τ sig × ℕ)) (k : PK F) (Q : PUnit → sProp 𝕄) (l : List (Fin 17)) :
    iprop(records xv ∗ bigSepL l (sendRes xv c) ∗ owing c (dueY (Y c) l ++ R))
      ⊢ iprop(((bigSepL l (fun i => crd (F := F) c (ySend i) N32) ∗ owing c R) -∗ runs c k Q) -∗ runs c (sendsY c l k) Q) := by
  induction l with
  | nil =>
    iintro ⟨#HR, -, HO⟩ Hk
    iapply Hk
    isplitr; · iempintro
    iexact HO
  | cons i l ih =>
    rw [bigSepL_cons', bigSepL_cons']
    unfold sendRes
    iintro ⟨#HR, ⟨⟨Hx, ⟨%f, Ho⟩, Ht, Ht'⟩, Hl⟩, HO⟩ Hk
    iapply (put xv c _ (Y c) (devY_eq c) (srcY c i) (dstY c i) (ySend i) (yRecv i) N32 (by rw [part_ys]; rfl) (by rw [part_yr]; rfl) (by rw [part_ys]; rfl) (by rw [part_yr]; rfl) rfl
      (xv c) f (dueY (Y c) l ++ R) (by rw [part_ys, pay_ys]; exact Entails.of_eq (srcY_pts c c i (xv c)))
      (by rw [part_yr, pay_yr]; exact Entails.of_eq ((dstY_pts c (Y c) i _).trans (oPts_congr _ _ fun y hy => land_Y xv c i f y hy)))) $$ [Hx Ho Ht Ht' HO]
    · isplitr; · iapply (rec_ys xv c i); iexact HR
      isplitr; · iapply (rec_yr xv (Y c) i); iexact HR
      isplitl [Hx]; · rw [srcY_pts c c i (xv c)]; iexact Hx
      isplitl [Ho]; · rw [dstY_pts c (Y c) i f]; iexact Ho
      isplitl [HO]; · iexact HO
      isplitl [Ht]; · iexact Ht
      iexact Ht'
    iintro ⟨Hc, HO⟩
    iapply ih $$ [Hl HO]
    · isplitr; · iexact HR
      isplitl [Hl]; · iexact Hl
      iexact HO
    iintro ⟨Hcs, HO⟩
    iapply Hk
    isplitr [HO]
    · isplitl [Hc]; · iexact Hc
      iexact Hcs
    iexact HO

/-! ## Forwarding along `x` -/

/-- What forwarding piece `j` needs besides its contents. -/
def fwdRes (c : Dev nD) (j : Fin 16) : sProp 𝕄 :=
  iprop((∃ f, oPts (F := F) (X c) (setX (X c) j.val) f) ∗ tok c (xSend j) ∗ tok (X c) (xRecv j))

/-- Elements of a whole buffer are themselves under its view. -/
theorem setOn_whole (b : Ref sig .tc) (M : Finset b.ty.shape.Idx) : (View.whole b : View sig .tc _ _ _).setOn M = M := by
  ext x; exact View.mem_setOn (v := View.whole b)

/-- What the peer along `x` receives as piece `j` is what the device forwards as piece `j`. -/
theorem setX_X (c : Dev nD) (j : ℕ) : setX (X c) j = setF c j := by unfold setX; rw [X_X]

/-- Awaiting the chunks of a list and forwarding each leaves the arrivals waited on and the credit of the departures; what is still owed must be above the arrivals along `y`. -/
theorem forwards_phase (c : Dev nD) (R : List (GSem nD τ sig × ℕ)) (hR : ∀ p ∈ R, p.1.1.2 = .tc ∧ 2 < (part p.1.2).lev) (k : PK F) (Q : PUnit → sProp 𝕄) (l : List (Fin 14)) :
    iprop(records xv ∗ levAts L lv ∗ bigSepL l (fun j => iprop((crd (F := F) c (yRecv (up17 j)) N32 ∗ at0 (F := F) c (yRecv (up17 j))) ∗ fwdRes c (up j)))
        ∗ owing c (dueX (X c) (l.map up) ++ R))
      ⊢ iprop(((bigSepL l (fun j => iprop(at1 (F := F) c (yRecv (up17 j)) ∗ crd (F := F) c (xSend (up j)) N32)) ∗ owing c R) -∗ runs c k Q) -∗ runs c (forwards c l k) Q) := by
  induction l with
  | nil =>
    iintro ⟨#HR, #Hlev, -, HO⟩ Hk
    iapply Hk
    isplitr; · iempintro
    iexact HO
  | cons j l ih =>
    rw [bigSepL_cons', bigSepL_cons']
    unfold fwdRes
    iintro ⟨#HR, #Hlev, ⟨⟨⟨Hc, Hat⟩, ⟨%f, Ho⟩, Ht, Ht'⟩, Hl⟩, HO⟩ Hk
    iapply (take xv c (yRecv (up17 j)) N32 (by rw [part_yr]; rfl) (by rw [part_yr]; rfl) (src := srcY c (up17 j)) (dst := dstY c (up17 j)) rfl
      (dueX (X c) ((j :: l).map up) ++ R) (by
        rw [part_yr]
        intro p hp
        rcases List.mem_append.mp hp with h | h
        · exact ⟨(mem_dueX h).1, by rw [(mem_dueX h).2]; exact (by decide : 2 < 3)⟩
        · exact hR p h) (by rw [part_yr, pay_yr])) $$ [Hc HO Hat]
    · isplitr; · iapply (rec_yr xv c (up17 j) |>.trans sep_elim_left); iexact HR
      isplitr; · iexact Hlev
      isplitl [Hc]; · iexact Hc
      isplitl [HO]; · iexact HO
      iexact Hat
    iintro ⟨HO, Hat, Hp⟩
    iapply (put xv c _ (X c) (devX_eq c) (pieX c j) (pieX c j) (xSend (up j)) (xRecv (up j)) N32 (by rw [part_xs]; rfl) (by rw [part_xr]; rfl) (by rw [part_xs]; exact NX_up j) (by rw [part_xr]; exact NX_up j) rfl
      (outOf xv c) f (dueX (X c) (l.map up) ++ R) (by rw [part_xs, pay_xs, setF_up]; exact Entails.of_eq (pieX_pts c c j _))
      (by rw [part_xr, pay_xr, setX_X, setF_up]; exact Entails.of_eq ((pieX_pts c (X c) j _).trans (oPts_congr _ _ fun y hy => land_piece xv c j f y hy)))) $$ [Hp Ho Ht Ht' HO]
    · isplitr; · iapply (rec_xs xv c (up j)); iexact HR
      isplitr; · iapply (rec_xr xv (X c) (up j)); iexact HR
      isplitl [Hp]; · rw [pieX_pts c c j]; iexact Hp
      isplitl [Ho]; · rw [pieX_pts c (X c) j f, ← setF_up c j, ← setX_X]; iexact Ho
      isplitl [HO]; · rw [← NX_up j]; iexact HO
      isplitl [Ht]; · iexact Ht
      iexact Ht'
    iintro ⟨Hc, HO⟩
    iapply ih $$ [Hl HO]
    · isplitr; · iexact HR
      isplitr; · iexact Hlev
      isplitl [Hl]; · iexact Hl
      iexact HO
    iintro ⟨Hcs, HO⟩
    iapply Hk
    isplitr [HO]
    · isplitl [Hat Hc]
      · isplitl [Hat]; · iexact Hat
        iexact Hc
      iexact Hcs
    iexact HO

/-- Forwarding the halves of a list, already held, pays their arrivals and leaves the credit of their departures. -/
theorem halves_phase (c : Dev nD) (R : List (GSem nD τ sig × ℕ)) (k : PK F) (Q : PUnit → sProp 𝕄) (l : List (Fin 2)) :
    iprop(records xv ∗ bigSepL l (fun r => iprop(oPts (F := F) c (setH c r.val) (outOf xv c) ∗ fwdRes c (half r)))
        ∗ owing c (dueX (X c) (l.map half) ++ R))
      ⊢ iprop(((bigSepL l (fun r => crd (F := F) c (xSend (half r)) N16) ∗ owing c R) -∗ runs c k Q) -∗ runs c (halves c l k) Q) := by
  induction l with
  | nil =>
    iintro ⟨#HR, -, HO⟩ Hk
    iapply Hk
    isplitr; · iempintro
    iexact HO
  | cons r l ih =>
    rw [bigSepL_cons', bigSepL_cons']
    unfold fwdRes
    iintro ⟨#HR, ⟨⟨Hp, ⟨%f, Ho⟩, Ht, Ht'⟩, Hl⟩, HO⟩ Hk
    iapply (put xv c _ (X c) (devX_eq c) (halX c r) (halX c r) (xSend (half r)) (xRecv (half r)) N16 (by rw [part_xs]; rfl) (by rw [part_xr]; rfl) (by rw [part_xs]; exact NX_half r) (by rw [part_xr]; exact NX_half r) rfl
      (outOf xv c) f (dueX (X c) (l.map half) ++ R) (by rw [part_xs, pay_xs, setF_half]; exact Entails.of_eq (halX_pts c c r _))
      (by rw [part_xr, pay_xr, setX_X, setF_half]; exact Entails.of_eq ((halX_pts c (X c) r _).trans (oPts_congr _ _ fun y hy => land_half xv c r f y hy)))) $$ [Hp Ho Ht Ht' HO]
    · isplitr; · iapply (rec_xs xv c (half r)); iexact HR
      isplitr; · iapply (rec_xr xv (X c) (half r)); iexact HR
      isplitl [Hp]; · rw [halX_pts c c r]; iexact Hp
      isplitl [Ho]; · rw [halX_pts c (X c) r f, ← setF_half c r, ← setX_X]; iexact Ho
      isplitl [HO]; · rw [← NX_half r]; iexact HO
      isplitl [Ht]; · iexact Ht
      iexact Ht'
    iintro ⟨Hc, HO⟩
    iapply ih $$ [Hl HO]
    · isplitr; · iexact HR
      isplitl [Hl]; · iexact Hl
      iexact HO
    iintro ⟨Hcs, HO⟩
    iapply Hk
    isplitr [HO]
    · isplitl [Hc]; · iexact Hc
      iexact Hcs
    iexact HO

/-! ## Awaiting -/

/-- Awaiting the chunks of a list gives their finished rows. -/
theorem recvs_phase (c : Dev nD) (R : List (GSem nD τ sig × ℕ)) (hR : ∀ p ∈ R, p.1.1.2 = .tc ∧ 2 < (part p.1.2).lev) (k : PK F) (Q : PUnit → sProp 𝕄) (l : List (Fin 17)) :
    iprop(records xv ∗ levAts L lv ∗ bigSepL l (fun i => iprop(crd (F := F) c (yRecv i) N32 ∗ at0 (F := F) c (yRecv i))) ∗ owing c R)
      ⊢ iprop(((bigSepL l (fun i => iprop(at1 (F := F) c (yRecv i) ∗ oPts (F := F) c (setY c i.val) (outOf xv c))) ∗ owing c R) -∗ runs c k Q) -∗ runs c (recvsY c l k) Q) := by
  induction l with
  | nil =>
    iintro ⟨#HR, #Hlev, -, HO⟩ Hk
    iapply Hk
    isplitr; · iempintro
    iexact HO
  | cons i l ih =>
    rw [bigSepL_cons', bigSepL_cons']
    iintro ⟨#HR, #Hlev, ⟨⟨Hc, Hat⟩, Hl⟩, HO⟩ Hk
    iapply (take xv c (yRecv i) N32 (by rw [part_yr]; rfl) (by rw [part_yr]; rfl) (src := srcY c i) (dst := dstY c i) rfl R (by rw [part_yr]; exact hR) (by rw [part_yr, pay_yr])) $$ [Hc HO Hat]
    · isplitr; · iapply (rec_yr xv c i |>.trans sep_elim_left); iexact HR
      isplitr; · iexact Hlev
      isplitl [Hc]; · iexact Hc
      isplitl [HO]; · iexact HO
      iexact Hat
    iintro ⟨HO, Hat, Hp⟩
    iapply ih $$ [Hl HO]
    · isplitr; · iexact HR
      isplitr; · iexact Hlev
      isplitl [Hl]; · iexact Hl
      iexact HO
    iintro ⟨Hcs, HO⟩
    iapply Hk
    isplitr [HO]
    · isplitl [Hat Hp]
      · isplitl [Hat]; · iexact Hat
        iexact Hp
      iexact Hcs
    iexact HO

/-- Awaiting the departures of a list gives the input elements back. -/
theorem sent_phase (c : Dev nD) (k : PK F) (Q : PUnit → sProp 𝕄) (l : List (Fin 17)) :
    iprop(records xv ∗ levAts L lv ∗ bigSepL l (fun i => iprop(crd (F := F) c (ySend i) N32 ∗ at0 (F := F) c (ySend i))) ∗ owing c [])
      ⊢ iprop(((bigSepL l (fun i => iprop(at1 (F := F) c (ySend i) ∗ xPts (F := F) c (srcY c i).view.set (xv c))) ∗ owing c []) -∗ runs c k Q) -∗ runs c (sentY c l k) Q) := by
  induction l with
  | nil =>
    iintro ⟨#HR, #Hlev, -, HO⟩ Hk
    iapply Hk
    isplitr; · iempintro
    iexact HO
  | cons i l ih =>
    rw [bigSepL_cons', bigSepL_cons']
    iintro ⟨#HR, #Hlev, ⟨⟨Hc, Hat⟩, Hl⟩, HO⟩ Hk
    iapply (take xv c (ySend i) N32 (by rw [part_ys]; rfl) (by rw [part_ys]; rfl) (src := dstY c i) (dst := srcY c i) rfl [] (fun p hp => absurd hp List.not_mem_nil) (by rw [part_ys, pay_ys])) $$ [Hc HO Hat]
    · isplitr; · iapply (rec_ys xv c i |>.trans sep_elim_left); iexact HR
      isplitr; · iexact Hlev
      isplitl [Hc]; · iexact Hc
      isplitl [HO]; · iexact HO
      iexact Hat
    iintro ⟨HO, Hat, Hp⟩
    iapply ih $$ [Hl HO]
    · isplitr; · iexact HR
      isplitr; · iexact Hlev
      isplitl [Hl]; · iexact Hl
      iexact HO
    iintro ⟨Hcs, HO⟩
    iapply Hk
    isplitr [HO]
    · isplitl [Hat Hp]
      · isplitl [Hat]; · iexact Hat
        iexact Hp
      iexact Hcs
    iexact HO

/-- What settling piece `j` spends, -/
def setlRes (c : Dev nD) (j : Fin 16) : sProp 𝕄 :=
  iprop((crd c (xRecv j) (NX j) ∗ at0 c (xRecv j)) ∗ crd c (xSend j) (NX j) ∗ at0 c (xSend j))
/-- and leaves. -/
def setlEnd (c : Dev nD) (j : Fin 16) : sProp 𝕄 :=
  iprop((at1 c (xRecv j) ∗ oPts c (setX c j.val) (outOf xv c)) ∗ at1 c (xSend j) ∗ oPts c (setF c j.val) (outOf xv c))

/-- The two waits that settle piece `j`. -/
theorem settle_one (c : Dev nD) (j : Fin 16) {s : Shape} {v : Memref sig .tc .vmem s .f32} {h1 h2 h3 h4 : v.view.WordExact} (hn : v.view.dmaCredit = NX j)
    (k : PK F) (Q : PUnit → sProp 𝕄) :
    iprop(records xv ∗ levAts L lv ∗ setlRes c j ∗ owing c [])
      ⊢ iprop(((setlEnd xv c j ∗ owing c []) -∗ runs c k Q)
          -∗ runs c (.op (.waitDma2 (xRecv j) v v h1 h2) fun _ => .op (.waitDma2 (xSend j) v v h3 h4) fun _ => k) Q) := by
  unfold setlRes setlEnd
  iintro ⟨#HR, #Hlev, ⟨⟨Hc, Hat⟩, Hc', Hat'⟩, HO⟩ Hk
  iapply (take xv c (xRecv j) (NX j) (by rw [part_xr]; rfl) (by rw [part_xr]; rfl) hn [] (fun p hp => absurd hp List.not_mem_nil) (by rw [part_xr, pay_xr])) $$ [Hc HO Hat]
  · isplitr; · iapply (rec_xr xv c j |>.trans sep_elim_left); iexact HR
    isplitr; · iexact Hlev
    isplitl [Hc]; · iexact Hc
    isplitl [HO]; · iexact HO
    iexact Hat
  iintro ⟨HO, Hat, Hp⟩
  iapply (take xv c (xSend j) (NX j) (by rw [part_xs]; rfl) (by rw [part_xs]; rfl) hn [] (fun p hp => absurd hp List.not_mem_nil) (by rw [part_xs, pay_xs])) $$ [Hc' HO Hat']
  · isplitr; · iapply (rec_xs xv c j |>.trans sep_elim_left); iexact HR
    isplitr; · iexact Hlev
    isplitl [Hc']; · iexact Hc'
    isplitl [HO]; · iexact HO
    iexact Hat'
  iintro ⟨HO, Hat', Hp'⟩
  iapply Hk
  isplitr [HO]
  · isplitl [Hat Hp]
    · isplitl [Hat]; · iexact Hat
      iexact Hp
    isplitl [Hat']; · iexact Hat'
    iexact Hp'
  iexact HO

/-- Settling the first fourteen pieces, one after another, -/
theorem settleX_phase (c : Dev nD) (k : PK F) (Q : PUnit → sProp 𝕄) (l : List (Fin 14)) :
    iprop(records xv ∗ levAts L lv ∗ bigSepL l (fun j => setlRes (F := F) c (up j)) ∗ owing c [])
      ⊢ iprop(((bigSepL l (fun j => setlEnd xv c (up j)) ∗ owing c []) -∗ runs c k Q) -∗ runs c (settleX c l k) Q) := by
  induction l with
  | nil =>
    iintro ⟨#HR, #Hlev, -, HO⟩ Hk
    iapply Hk
    isplitr; · iempintro
    iexact HO
  | cons j l ih =>
    rw [bigSepL_cons', bigSepL_cons']
    iintro ⟨#HR, #Hlev, ⟨Hj, Hl⟩, HO⟩ Hk
    iapply (settle_one xv c (up j) (v := pieX c j) (NX_up j).symm) $$ [Hj HO]
    · isplitr; · iexact HR
      isplitr; · iexact Hlev
      isplitl [Hj]; · iexact Hj
      iexact HO
    iintro ⟨Hj, HO⟩
    iapply ih $$ [Hl HO]
    · isplitr; · iexact HR
      isplitr; · iexact Hlev
      isplitl [Hl]; · iexact Hl
      iexact HO
    iintro ⟨Hl, HO⟩
    iapply Hk
    isplitr [HO]
    · isplitl [Hj]; · iexact Hj
      iexact Hl
    iexact HO

/-- and the last two. -/
theorem settleH_phase (c : Dev nD) (k : PK F) (Q : PUnit → sProp 𝕄) (l : List (Fin 2)) :
    iprop(records xv ∗ levAts L lv ∗ bigSepL l (fun r => setlRes (F := F) c (half r)) ∗ owing c [])
      ⊢ iprop(((bigSepL l (fun r => setlEnd xv c (half r)) ∗ owing c []) -∗ runs c k Q) -∗ runs c (settleH c l k) Q) := by
  induction l with
  | nil =>
    iintro ⟨#HR, #Hlev, -, HO⟩ Hk
    iapply Hk
    isplitr; · iempintro
    iexact HO
  | cons r l ih =>
    rw [bigSepL_cons', bigSepL_cons']
    iintro ⟨#HR, #Hlev, ⟨Hj, Hl⟩, HO⟩ Hk
    iapply (settle_one xv c (half r) (v := halX c r) (NX_half r).symm) $$ [Hj HO]
    · isplitr; · iexact HR
      isplitr; · iexact Hlev
      isplitl [Hj]; · iexact Hj
      iexact HO
    iintro ⟨Hj, HO⟩
    iapply ih $$ [Hl HO]
    · isplitr; · iexact HR
      isplitr; · iexact Hlev
      isplitl [Hl]; · iexact Hl
      iexact HO
    iintro ⟨Hl, HO⟩
    iapply Hk
    isplitr [HO]
    · isplitl [Hj]; · iexact Hj
      iexact Hl
    iexact HO

/-! ## The device's own copy -/

/-- The device's own copy keeps the input and leaves its own rows finished. -/
theorem own_phase (c : Dev nD) (Sx : Finset S1024x1024.Idx) (hSx : (ownX c).set ⊆ Sx) (f : S2048x512.Idx → Elt F .f32) (k : PK F) (Q : PUnit → sProp 𝕄) :
    iprop(xPts c Sx (xv c) ∗ oPts c (ownO c).set f)
      ⊢ iprop(((xPts c Sx (xv c) ∗ oPts c (ownO c).set (outOf xv c)) -∗ runs c k Q) -∗ runs c (copyOwn c k) Q) := by
  unfold xPts oPts copyOwn
  iintro ⟨Hx, Ho⟩ Hk
  iapply (wp_load 𝒱₀ (c : Thread nD τ) none Set.univ (m := xM) ((setOn_whole cc0_stg0_0 (ownX c).set).subset.trans hSx)) $$ Hx; iintro Hx
  iapply (wp_load 𝒱₀ (c : Thread nD τ) none Set.univ (m := oM) ((setOn_whole cc0_stg1_0 (ownO c).set).subset)) $$ Ho; iintro Ho
  iapply (wp_store 𝒱₀ (c : Thread nD τ) none Set.univ (m := oM) (r := ownO c) (Mk := Finset.univ) ((ownO_set c).subset)) $$ Ho; iintro Ho
  iapply Hk
  isplitl [Hx]; · iexact Hx
  have e := oPts_congr c (ownO c).set fun y hy => land_own xv c f y hy
  unfold oPts at e
  iapply (Entails.of_eq e)
  iexact Ho

end Cert.KProof

end
-- ==== Proof.Body.lean ====
/-
The body run from what the launch deals a device to its finished output, and the library's obligation for it.
-/
module

public import proofs.«01_k».proof.Proof.Phases

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (xv : Dev nD → S1024x1024.Idx → Elt F .f32)

/-! ## Families as lists -/

/-- A family over the seventeen chunks as a list, -/
theorem univ17 (Φ : Fin 17 → sProp 𝕄) : bigSep Finset.univ Φ = bigSepL all17 Φ := bigSep_univ_eq_bigSepL all17 (by decide) (by decide) Φ
/-- and one over the sixteen pieces. -/
theorem univ16 (Φ : Fin 16 → sProp 𝕄) : bigSep Finset.univ Φ = bigSepL all16 Φ := bigSep_univ_eq_bigSepL all16 (by decide) (by decide) Φ

/-- The chunks: those forwarded whole, the one forwarded in halves, and the two not forwarded. -/
theorem split17 (Φ : Fin 17 → sProp 𝕄) : bigSepL all17 Φ = iprop(bigSepL all14 (fun j => Φ (up17 j)) ∗ Φ 14 ∗ bigSepL [15, 16] Φ) := by
  rw [show all17 = all14.map up17 ++ ([14] ++ [15, 16]) from rfl, bigSepL_append, bigSepL_append, bigSepL_map, bigSepL_singleton]
/-- A list of two. -/
theorem pair_eq (Φ : Fin 2 → sProp 𝕄) : bigSepL [0, 1] Φ = iprop(Φ 0 ∗ Φ 1) := by rw [bigSepL_cons', bigSepL_singleton]
/-- The pieces: the first fourteen and the two halves. -/
theorem split16 (Φ : Fin 16 → sProp 𝕄) : bigSepL all16 Φ = iprop(bigSepL all14 (fun j => Φ (up j)) ∗ bigSepL [0, 1] (fun r => Φ (half r))) := by
  rw [bigSepL_append, bigSepL_map, bigSepL_map]

/-- Two pairs regrouped. -/
theorem swap4 (A B C D : sProp 𝕄) : iprop((A ∗ B) ∗ C ∗ D) ⊢ iprop((A ∗ C) ∗ B ∗ D) := by
  iintro ⟨⟨HA, HB⟩, HC, HD⟩
  isplitl [HA HC]
  · isplitl [HA]; · iexact HA
    iexact HC
  isplitl [HB]; · iexact HB
  iexact HD

/-- A list of pairs is a pair of lists. -/
theorem sepL {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    exact equiv_iff.mp ⟨swap4 _ _ _ _, swap4 _ _ _ _⟩

/-! ## The staged arrays cut into pieces -/

/-- The staged output is its chunks, its pieces and its own rows. -/
theorem out_cut (c : Dev nD) (f : S2048x512.Idx → Elt F .f32) :
    oPts c Finset.univ f
      = iprop((bigSepL all17 (fun i => oPts (F := F) c (setY c i.val) f) ∗ bigSepL all16 (fun j => oPts (F := F) c (setX c j.val) f)) ∗ oPts c (ownO c).set f) := by
  have hd : Disjoint ((Finset.univ : Finset (Fin 17 ⊕ Fin 16)).biUnion (piece c)) (ownO c).set := by
    rw [Finset.disjoint_left]
    intro y hy ho
    obtain ⟨b, -, hb⟩ := Finset.mem_biUnion.mp hy
    have h1 := piece_half c b y hb; have h2 := (mem_ownO c y).mp ho
    omega
  have hu : (Finset.univ : Finset S2048x512.Idx) = (Finset.univ : Finset (Fin 17 ⊕ Fin 16)).biUnion (piece c) ∪ (ownO c).set := by
    symm; rw [Finset.eq_univ_iff_forall]
    intro y
    have hr := row_lt y
    by_cases e : (y 0).val / 1024 = c.val % 2
    · exact Finset.mem_union_right _ ((mem_ownO c y).mpr e)
    · obtain ⟨b, hb⟩ := piece_cover c y (by omega)
      exact Finset.mem_union_left _ (Finset.mem_biUnion.mpr ⟨b, Finset.mem_univ _, hb⟩)
  rw [← univ17, ← univ16]
  refine Eq.trans ?_ (congrArg (fun t => iprop(t ∗ oPts c (ownO c).set f)) (bigSep_univ_sum (fun b => oPts (F := F) c (piece c b) f)))
  unfold oPts
  rw [hu, equiv_iff.mp ⟨(pointsTo_union hd).1, (pointsTo_union hd).2⟩, pointsTo_biUnion _ _ (fun b _ b' _ h => piece_disj c b b' h)]

/-- The columns of the input that are not sent. -/
def restX (c : Dev nD) : Finset S1024x1024.Idx := Finset.univ \ (Finset.univ : Finset (Fin 17)).biUnion fun i => (srcY c i).view.set

/-- The columns a device keeps are among those not sent. -/
theorem ownX_sub (c : Dev nD) : (ownX c).set ⊆ restX c := by
  intro y hy
  refine Finset.mem_sdiff.mpr ⟨Finset.mem_univ _, fun h => ?_⟩
  obtain ⟨i, -, hi⟩ := Finset.mem_biUnion.mp h
  exact Finset.disjoint_left.mp (ownX_disj c i) hy hi

/-- The staged input is the elements the chunks read and the rest. -/
theorem in_cut (c : Dev nD) (f : S1024x1024.Idx → Elt F .f32) :
    xPts c Finset.univ f = iprop(bigSepL all17 (fun i => xPts (F := F) c (srcY c i).view.set f) ∗ xPts c (restX c) f) := by
  rw [← univ17]
  unfold xPts restX
  rw [← pointsTo_biUnion _ _ (fun i _ i' _ h => srcY_disj c i i' h)]
  exact equiv_iff.mp ⟨(pointsTo_split_subset (Finset.subset_univ _)).1, (pointsTo_split_subset (Finset.subset_univ _)).2⟩

/-! ## After the handshake -/

/-- What the transfers leave: every cell waited on, and every piece of both staged arrays. -/
def mid (c : Dev nD) : sProp 𝕄 :=
  iprop((bigSepL all14 (fun j => at1 (F := F) c (yRecv (up17 j))) ∗ at1 (F := F) c (yRecv 14) ∗ bigSepL [15, 16] (fun i => iprop(at1 (F := F) c (yRecv i) ∗ oPts (F := F) c (setY c i.val) (outOf xv c))))
    ∗ bigSepL all17 (fun i => iprop(at1 (F := F) c (ySend i) ∗ xPts (F := F) c (srcY c i).view.set (xv c)))
    ∗ bigSepL all16 (fun j => setlEnd xv c j)
    ∗ xPts c (restX c) (xv c) ∗ oPts c (ownO c).set (outOf xv c) ∗ owing c [])

/-- What settling a half spends, with its credit written out; -/
theorem half_res (c : Dev nD) (r : Fin 2) :
    iprop((crd (F := F) c (xRecv (half r)) (NX (half r)) ∗ at0 (F := F) c (xRecv (half r))) ∗ crd (F := F) c (xSend (half r)) N16 ∗ at0 (F := F) c (xSend (half r))) = setlRes c (half r) := by
  unfold setlRes; rw [NX_half r]
/-- and what settling a whole piece spends. -/
theorem up_res (c : Dev nD) (j : Fin 14) :
    iprop((crd (F := F) c (xRecv (up j)) (NX (up j)) ∗ at0 (F := F) c (xRecv (up j))) ∗ crd (F := F) c (xSend (up j)) N32 ∗ at0 (F := F) c (xSend (up j))) = setlRes c (up j) := by
  unfold setlRes; rw [NX_up j]

/-- After the handshake, the rest of the body runs from the cells, the credits and the cut arrays to `mid`. -/
theorem transfers (c : Dev nD) (f : S2048x512.Idx → Elt F .f32) (Q : PUnit → sProp 𝕄) :
    iprop(records xv ∗ levAts L lv ∗ bigSepL all17 (sendRes xv c) ∗ bigSepL all17 (fun i => iprop(crd (F := F) c (yRecv i) N32 ∗ at0 (F := F) c (yRecv i)))
        ∗ bigSepL all16 (fwdRes (F := F) c) ∗ bigSepL all17 (fun i => at0 (F := F) c (ySend i))
        ∗ bigSepL all16 (fun j => iprop(crd (F := F) c (xRecv j) (NX j) ∗ at0 (F := F) c (xRecv j))) ∗ bigSepL all16 (fun j => at0 (F := F) c (xSend j))
        ∗ xPts c (restX c) (xv c) ∗ oPts c (ownO c).set f ∗ owing c (dueY (Y c) all17 ++ dueX (X c) all16))
      ⊢ iprop((mid xv c -∗ |={Set.univ}=> Q ⟨⟩) -∗ runs c (sendsY c all17 <| forwards c all14 <| recvsY c [14] <| halves c [0, 1] <| copyOwn c <| recvsY c [15, 16] <| sentY c all17 <|
          settleX c all14 <| settleH c [0, 1] <| .ret ⟨⟩) Q) := by
  rw [split17 (fun i => iprop(crd (F := F) c (yRecv i) N32 ∗ at0 (F := F) c (yRecv i))), split16 (fwdRes (F := F) c),
    split16 (fun j => iprop(crd (F := F) c (xRecv j) (NX j) ∗ at0 (F := F) c (xRecv j))), split16 (fun j => at0 (F := F) c (xSend j))]
  iintro ⟨#HR, #Hlev, Hs, ⟨Hr14, HrM, HrE⟩, ⟨Hf, Hfh⟩, Has, ⟨Hv, Hvh⟩, ⟨Hw, Hwh⟩, Hx, Ho, HO⟩ Hk
  have hgt : ∀ l : List (Fin 16), ∀ p ∈ dueX (X c) l, p.1.1.2 = .tc ∧ 2 < (part p.1.2).lev := fun l p hp => ⟨(mem_dueX hp).1, by rw [(mem_dueX hp).2]; decide⟩
  have hnil : ∀ p ∈ ([] : List (GSem nD τ sig × ℕ)), p.1.1.2 = .tc ∧ 2 < (part p.1.2).lev := fun p hp => absurd hp List.not_mem_nil
  iapply (sends_phase xv c (dueX (X c) all16)) $$ [Hs HO]
  · isplitr; · iexact HR
    isplitl [Hs]; · iexact Hs
    iexact HO
  iintro ⟨Hcs, HO⟩
  iapply (forwards_phase xv c (dueX (X c) ([0, 1].map half)) (hgt _)) $$ [Hr14 Hf HO]
  · isplitr; · iexact HR
    isplitr; · iexact Hlev
    isplitl [Hr14 Hf]
    · iapply (Entails.of_eq (sepL all14 (fun j => iprop(crd (F := F) c (yRecv (up17 j)) N32 ∗ at0 (F := F) c (yRecv (up17 j)))) (fun j => fwdRes (F := F) c (up j))).symm)
      isplitl [Hr14]; · iexact Hr14
      iexact Hf
    iexact HO
  iintro ⟨Hff, HO⟩
  ihave Hff' := (Entails.of_eq (sepL all14 (fun j => at1 (F := F) c (yRecv (up17 j))) (fun j => crd (F := F) c (xSend (up j)) N32))) $$ Hff
  icases Hff' with ⟨Ha14, Hcx⟩
  iapply (recvs_phase xv c (dueX (X c) ([0, 1].map half)) (hgt _)) $$ [HrM HO]
  · isplitr; · iexact HR
    isplitr; · iexact Hlev
    isplitl [HrM]; · iapply (Entails.of_eq (bigSepL_singleton (Φ := fun i => iprop(crd (F := F) c (yRecv i) N32 ∗ at0 (F := F) c (yRecv i))) 14).symm); iexact HrM
    iexact HO
  iintro ⟨HM, HO⟩
  ihave HM' := (Entails.of_eq (bigSepL_singleton (Φ := fun i : Fin 17 => iprop(at1 (F := F) c (yRecv i) ∗ oPts (F := F) c (setY c i.val) (outOf xv c))) 14)) $$ HM
  icases HM' with ⟨HaM, HpM⟩
  ihave HpM' := (Entails.of_eq (show oPts (F := F) c (setY c (14 : Fin 17).val) (outOf xv c) = iprop(oPts c (setH c 0) (outOf xv c) ∗ oPts c (setH c 1) (outOf xv c)) from by
    rw [show setY c (14 : Fin 17).val = setH c 0 ∪ setH c 1 from setH_union c]; unfold oPts; exact equiv_iff.mp ⟨(pointsTo_union (setH_disj c)).1, (pointsTo_union (setH_disj c)).2⟩)) $$ HpM
  icases HpM' with ⟨Hp0, Hp1⟩
  iapply (halves_phase xv c []) $$ [Hp0 Hp1 Hfh HO]
  · isplitr; · iexact HR
    isplitl [Hp0 Hp1 Hfh]
    · iapply (Entails.of_eq (sepL [0, 1] (fun r : Fin 2 => oPts (F := F) c (setH c r.val) (outOf xv c)) (fun r => fwdRes (F := F) c (half r))).symm)
      isplitl [Hp0 Hp1]
      · iapply (Entails.of_eq (pair_eq (fun r : Fin 2 => oPts (F := F) c (setH c r.val) (outOf xv c))).symm)
        isplitl [Hp0]; · iexact Hp0
        iexact Hp1
      iexact Hfh
    iexact HO
  iintro ⟨Hch, HO⟩
  iapply (own_phase xv c (restX c) (ownX_sub c) f) $$ [Hx Ho]
  · isplitl [Hx]; · iexact Hx
    iexact Ho
  iintro ⟨Hx, Ho⟩
  iapply (recvs_phase xv c [] hnil) $$ [HrE HO]
  · isplitr; · iexact HR
    isplitr; · iexact Hlev
    isplitl [HrE]; · iexact HrE
    iexact HO
  iintro ⟨HrE, HO⟩
  iapply (sent_phase xv c) $$ [Hcs Has HO]
  · isplitr; · iexact HR
    isplitr; · iexact Hlev
    isplitl [Hcs Has]
    · iapply (Entails.of_eq (sepL all17 (fun i => crd (F := F) c (ySend i) N32) (fun i => at0 (F := F) c (ySend i))).symm)
      isplitl [Hcs]; · iexact Hcs
      iexact Has
    iexact HO
  iintro ⟨Hsx, HO⟩
  iapply (settleX_phase xv c) $$ [Hv Hcx Hw HO]
  · isplitr; · iexact HR
    isplitr; · iexact Hlev
    isplitl [Hv Hcx Hw]
    · iapply (Entails.of_eq (show iprop(bigSepL all14 (fun j => iprop(crd (F := F) c (xRecv (up j)) (NX (up j)) ∗ at0 (F := F) c (xRecv (up j)))) ∗ bigSepL all14 (fun j => crd (F := F) c (xSend (up j)) N32)
          ∗ bigSepL all14 (fun j => at0 (F := F) c (xSend (up j)))) = bigSepL all14 (fun j => setlRes (F := F) c (up j)) from by rw [← sepL, ← sepL]; exact congrArg _ (funext fun j => up_res c j)))
      isplitl [Hv]; · iexact Hv
      isplitl [Hcx]; · iexact Hcx
      iexact Hw
    iexact HO
  iintro ⟨Hse, HO⟩
  iapply (settleH_phase xv c) $$ [Hvh Hch Hwh HO]
  · isplitr; · iexact HR
    isplitr; · iexact Hlev
    isplitl [Hvh Hch Hwh]
    · iapply (Entails.of_eq (show iprop(bigSepL [0, 1] (fun r => iprop(crd (F := F) c (xRecv (half r)) (NX (half r)) ∗ at0 (F := F) c (xRecv (half r)))) ∗ bigSepL [0, 1] (fun r => crd (F := F) c (xSend (half r)) N16)
          ∗ bigSepL [0, 1] (fun r => at0 (F := F) c (xSend (half r)))) = bigSepL [0, 1] (fun r => setlRes (F := F) c (half r)) from by rw [← sepL, ← sepL]; exact congrArg _ (funext fun r => half_res c r)))
      isplitl [Hvh]; · iexact Hvh
      isplitl [Hch]; · iexact Hch
      iexact Hwh
    iexact HO
  iintro ⟨Hsh, HO⟩
  unfold runs; rw [wp_ret]
  iapply Hk
  unfold mid
  isplitl [Ha14 HaM HrE]
  · isplitl [Ha14]; · iexact Ha14
    isplitl [HaM]; · iexact HaM
    iexact HrE
  isplitl [Hsx]; · iexact Hsx
  isplitl [Hse Hsh]
  · iapply (Entails.of_eq (split16 (setlEnd xv c)).symm)
    isplitl [Hse]; · iexact Hse
    iexact Hsh
  isplitl [Hx]; · iexact Hx
  isplitl [Ho]; · iexact Ho
  iexact HO

/-! ## Closing -/

/-- A cell that has been waited on closes with its counter at zero. -/
theorem cell_done (ck : Dev nD × CK) : iprop(inv xv (kcell ck) ∗ atPos ER (kcell ck) 1 ∅ 0) ⊢ iprop(|={Set.univ}=> semVal (kcell ck) 0) := by
  unfold inv
  iintro ⟨⟨%κ, HI⟩, Hat⟩
  imod (Rounds.cell_close ER (Rd xv) (Set.mem_univ κ) (fun h => h) (R := 0 + 1) (duties_later xv (kcell ck))) $$ [HI Hat] with Hz
  · isplitl [HI]; · iexact HI
    iexact Hat
  imodintro; iexact Hz

/-- So do all the transfer cells of a device. -/
theorem close_all (c : Dev nD) :
    iprop(records xv ∗ bigSep Finset.univ fun k : KX => at1 (F := F) c (osemD k)) ⊢ iprop(|={Set.univ}=> bigSep Finset.univ fun k : KX => semVal ((c : Thread nD τ), osem k) 0) := by
  refine (bigSep_with_persistent (Ψ := fun k : KX => iprop(|={Set.univ}=> semVal ((c : Thread nD τ), osem k) 0)) fun k _ => ?_).trans (bigSep_fupd _ _)
  have h : iprop(records xv ∗ at1 (F := F) c (osemD k)) ⊢ iprop(inv xv (kcell (c, .inr k)) ∗ atPos ER (kcell (c, .inr k)) 1 ∅ 0) := by
    iintro ⟨#HR, Ha⟩
    ihave H := (records_at xv (c, .inr k)) $$ HR
    icases H with ⟨HI, -⟩
    isplitl [HI]; · iexact HI
    unfold at1; iexact Ha
  exact h.trans (cell_done xv (c, .inr k))

/-- The positions of the transfer cells, by direction and end. -/
theorem over_KX (Φ : KX → sProp 𝕄) : bigSep Finset.univ Φ
    = iprop((bigSepL all17 (fun i => Φ (.inl (.inl i))) ∗ bigSepL all17 (fun i => Φ (.inl (.inr i)))) ∗ (bigSepL all16 (fun j => Φ (.inr (.inl j))) ∗ bigSepL all16 (fun j => Φ (.inr (.inr j))))) := by
  rw [bigSep_univ_sum, bigSep_univ_sum, bigSep_univ_sum, univ17, univ17, univ16, univ16]; rfl

/-- A family over all cells is the barrier's member and the transfer cells'. -/
theorem over_CK (Φ : CK → sProp 𝕄) : bigSep Finset.univ Φ = iprop(Φ (.inl ()) ∗ bigSep Finset.univ fun k : KX => Φ (.inr k)) := by
  rw [bigSep_univ_sum, bigSep_univ_eq_bigSepL [()] (by decide) (by decide), bigSepL_singleton]; rfl

/-- What remains after the transfers is the input as it was, the whole output, and every transfer cell waited on. -/
theorem gather (c : Dev nD) :
    mid xv c ⊢ iprop(xPts c Finset.univ (xv c) ∗ oPts c Finset.univ (outOf xv c) ∗ owing c [] ∗ bigSep Finset.univ fun k : KX => at1 (F := F) c (osemD k)) := by
  unfold mid setlEnd
  rw [sepL, sepL, sepL, sepL, sepL, in_cut c (xv c), out_cut c (outOf xv c), over_KX, split17 (fun i => oPts (F := F) c (setY c i.val) (outOf xv c)), split17 (fun i => at1 (F := F) c (osemD (.inl (.inr i)))),
    split16 (fun j => oPts (F := F) c (setF c j.val) (outOf xv c))]
  iintro ⟨⟨Ha14, HaM, HaE, HpE⟩, ⟨Has, Hxs⟩, ⟨⟨Hav, Hpx⟩, Haw, Hpf, Hph⟩, Hx, Ho, HO⟩
  isplitl [Hxs Hx]
  · isplitl [Hxs]; · iexact Hxs
    iexact Hx
  isplitl [Hpf Hph HpE Hpx Ho]
  · isplitr [Ho]
    · isplitl [Hpf Hph HpE]
      · isplitl [Hpf]
        · iapply (Entails.of_eq (congrArg (bigSepL all14) (funext fun j => congrArg (fun S => oPts (F := F) c S (outOf xv c)) (setF_up c j)))); iexact Hpf
        isplitl [Hph]
        · iapply (Entails.of_eq (show bigSepL [0, 1] (fun r => oPts (F := F) c (setF c (half r).val) (outOf xv c)) = oPts c (setY c (14 : Fin 17).val) (outOf xv c) from by
            rw [show (fun r : Fin 2 => oPts (F := F) c (setF c (half r).val) (outOf xv c)) = fun r => oPts c (setH c r.val) (outOf xv c) from funext fun r => congrArg (fun S => oPts (F := F) c S (outOf xv c)) (setF_half c r)]
            rw [pair_eq, show setY c (14 : Fin 17).val = setH c 0 ∪ setH c 1 from setH_union c]; unfold oPts
            exact (equiv_iff.mp ⟨(pointsTo_union (setH_disj c)).1, (pointsTo_union (setH_disj c)).2⟩).symm))
          iexact Hph
        iexact HpE
      iexact Hpx
    iexact Ho
  isplitl [HO]; · iexact HO
  isplitl [Has Ha14 HaM HaE]
  · isplitl [Has]; · iexact Has
    isplitl [Ha14]; · iexact Ha14
    isplitl [HaM]; · iexact HaM
    iexact HaE
  isplitl [Haw]; · iexact Haw
  iexact Hav

/-! ## The whole body -/

/-- One signal to a peer's barrier. -/
theorem signal (c n e : Dev nD) (hne : n = e) (d : Bool) (P : sProp 𝕄) (hP : P = (Rd xv).payload (barC e) 0 d) (l : List (GSem nD τ sig × ℕ)) (k : PUnit → PK F) (Q : PUnit → sProp 𝕄) :
    iprop((inv xv (barC e) ∗ reached ER (barC e) 0) ∗ owing c ((barC e, 1) :: l) ∗ dutyTok ER (barC e) 0 d ∗ P)
      ⊢ iprop((owing c l -∗ runs c (k ⟨⟩) Q) -∗ runs c (.op (.semSignal (Dev.tc n) barS (1#32).toInt) k) Q) := by
  subst hne; subst hP
  unfold inv owing
  iintro ⟨⟨⟨%κ, HI⟩, Hr⟩, ⟨%W, HO⟩, Ht, HP⟩ Hk
  iapply (Rounds.wp_signal 𝒱₀ ER (Rd xv) (c : Thread nD τ) none (dst := (n : Thread nD τ)) (κ := κ)
      (d := d) (by rw [duties_at]; exact Finset.mem_univ _) (show (part (.reg barS)).amt = _ by decide) () (dues l) rfl) $$ [HI Hr HO Ht HP]
  · isplitl [HI]; · iexact HI
    isplitl [HO]; · iexact HO
    isplitl [Ht]; · iexact Ht
    isplitl [HP]; · iexact HP
    iexact Hr
  iintro HO
  iapply Hk
  iexists _; iexact HO

/-- The wait on its own barrier: both peers' rows arrive. -/
theorem handshake (c : Dev nD) (l : List (GSem nD τ sig × ℕ)) (hl : ∀ p ∈ l, p.1.1.2 = .tc ∧ 1 < (part p.1.2).lev) (k : PUnit → PK F) (Q : PUnit → sProp 𝕄) :
    iprop(inv xv (barC c) ∗ levAts L lv ∗ cred (tallyAt (barC c) () 2) ∗ owing c l ∗ atPos ER (barC c) 0 ∅ 0)
      ⊢ iprop(((owing c l ∗ atPos ER (barC c) 1 ∅ 0 ∗ barY (F := F) c ∗ barX (F := F) c) -∗ runs c (k ⟨⟩) Q)
          -∗ runs c (.op (.semWait barS (2#32).toInt) k) Q) := by
  unfold inv owing
  iintro ⟨⟨%κ, HI⟩, #Hlev, Hc, ⟨%W, HO⟩, Hat⟩ Hk
  iapply (Rounds.wp_wait_rest_token 𝒱₀ ER (Rd xv) (c : Thread nD τ) none (κ := κ)
      (wpE_semWait_eq 𝒱₀ (c : Thread nD τ) none Set.univ) (Set.mem_univ _) () (O := dues l) (W := W) (R := 0) (m := 0) (T := ∅)
      (by rw [expect_bar]; decide)) $$ [HI Hc HO Hat]
  · isplitl [HI]; · iexact HI
    isplitl [Hc]; · iexact Hc
    isplitl [HO]; · iexact HO
    isplitr; · iapply (mayWait c (.reg barS) l 1 (by decide) hl); iexact Hlev
    iexact Hat
  iintro ⟨HO, Hat, -, Hpay⟩
  ihave Hp := (Entails.of_eq (rest_bar xv c)) $$ Hpay
  iapply Hk
  isplitl [HO]; · iexists _; iexact HO
  isplitl [Hat]; · iexact Hat
  iexact Hp

/-- From what the launch deals, the input and an arbitrary output array, the body ends with the input, the output `outOf`, and its cells closed. -/
theorem body_run (c : Dev nD) (f : S2048x512.Idx → Elt F .f32) (Q : PUnit → sProp 𝕄) :
    iprop(start xv c ∗ xPts c Finset.univ (xv c) ∗ oPts c Finset.univ f ∗ owing c ((barC (Y c), 1) :: (barC (X c), 1) :: (dueY (Y c) all17 ++ dueX (X c) all16)))
      ⊢ iprop(((ended (F := F) c ∗ xPts c Finset.univ (xv c) ∗ oPts c Finset.univ (outOf xv c) ∗ owing c []) -∗ Q ⟨⟩) -∗ runs c (bodyG c) Q) := by
  unfold start poss payToks creds bodyG
  rw [in_cut c (xv c), out_cut c f, over_CK, over_KX, univ17, univ17, univ17, univ16, univ16, univ16]
  iintro ⟨⟨⟨#HR, ⟨HaB, ⟨Has, Har⟩, Haw, Hav⟩, ⟨HtB, HtB'⟩, ⟨Hts, Htr⟩, Htw, Htv⟩, ⟨HcB, Hcr, Hcv⟩, #Hlev⟩, ⟨Hxs, Hx⟩, ⟨⟨Hoy, Hox⟩, Ho⟩, HO⟩ Hk
  iapply (signal xv c _ (Y c) (devY1_eq c) false (barY (Y c)) rfl) $$ [HO HtB Hoy]
  · isplitr; · iapply (rec_bar xv (Y c)); iexact HR
    isplitl [HO]; · iexact HO
    isplitl [HtB]; · iexact HtB
    unfold barY; rw [Y_Y, univ17]
    iapply (bigSepL_mono (fun i _ => by iintro H; iexists f; iexact H)); iexact Hoy
  iintro HO
  iapply (signal xv c _ (X c) (devX2_eq c) true (barX (X c)) rfl) $$ [HO HtB' Hox]
  · isplitr; · iapply (rec_bar xv (X c)); iexact HR
    isplitl [HO]; · iexact HO
    isplitl [HtB']; · iexact HtB'
    unfold barX; rw [X_X, univ16]
    iapply (bigSepL_mono (fun i _ => by iintro H; iexists f; iexact H)); iexact Hox
  iintro HO
  ihave HB := (rec_bar xv c) $$ HR
  icases HB with ⟨#HB, -⟩
  iapply (handshake xv c (dueY (Y c) all17 ++ dueX (X c) all16) (fun p hp => by
      rcases List.mem_append.mp hp with h | h
      · exact ⟨(mem_dueY h).1, by rw [(mem_dueY h).2]; decide⟩
      · exact ⟨(mem_dueX h).1, by rw [(mem_dueX h).2]; decide⟩)) $$ [HcB HO HaB]
  · isplitr; · iexact HB
    isplitr; · iexact Hlev
    isplitl [HcB]; · iexact HcB
    isplitl [HO]; · iexact HO
    iexact HaB
  unfold barY barX; rw [univ17, univ16]
  iintro ⟨HO, HaB, Hoy, Hox⟩
  iapply (transfers xv c f) $$ [Has Har Haw Hav Hts Htr Htw Htv Hcr Hcv Hxs Hx Hoy Hox Ho HO]
  · isplitr; · iexact HR
    isplitr; · iexact Hlev
    isplitl [Hxs Hoy Hts Htr]
    · unfold sendRes; rw [sepL, sepL, sepL]
      isplitl [Hxs]; · iexact Hxs
      isplitl [Hoy]; · iexact Hoy
      isplitl [Hts]; · iexact Hts
      iexact Htr
    isplitl [Hcr Har]
    · rw [sepL]
      isplitl [Hcr]; · iexact Hcr
      iexact Har
    isplitl [Hox Htw Htv]
    · unfold fwdRes; rw [sepL, sepL]
      isplitl [Hox]; · iexact Hox
      isplitl [Htw]; · iexact Htw
      iexact Htv
    isplitl [Has]; · iexact Has
    isplitl [Hcv Hav]
    · rw [sepL]
      isplitl [Hcv]; · iexact Hcv
      iexact Hav
    isplitl [Haw]; · iexact Haw
    isplitl [Hx]; · iexact Hx
    isplitl [Ho]; · iexact Ho
    iexact HO
  iintro Hm
  ihave Hg := (gather xv c) $$ Hm
  icases Hg with ⟨Hx, Ho, HO, Ha⟩
  imod (close_all xv c) $$ [Ha] with Hz
  · isplitr; · iexact HR
    iexact Ha
  imod (cell_done xv (c, .inl ())) $$ [HaB] with Hb
  · isplitr; · iexact HB
    iexact HaB
  imodintro
  iapply Hk
  unfold ended
  isplitl [Hz Hb]
  · isplitl [Hz]; · iexact Hz
    iexact Hb
  isplitl [Hx]; · iapply (Entails.of_eq (in_cut c (xv c))); iexact Hx
  isplitl [Ho]; · iexact Ho
  iexact HO

end Cert.KProof

end
-- ==== Proof.Launch.lean ====
/-
The launch: the ghost state and the credits dealt to the devices, and the run of the whole program.
-/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The proof data -/

variable (m : (ℓ : Loc nD τ sig) → Buf (Elt F) ℓ) (ρ : Dev nD → PrngReg)

/-- The block of the input that the pipeline stages on device `c`. -/
def xIn (c : Dev nD) : S1024x1024.Idx → Elt F .f32 := (win0_0.blk (0 : Fin 1)).view.read (Elt F) (m ((c : Thread nD τ).loc main_arg0))

/-- The contents of the staging buffers after the body, what the body starts from and ends with, and what it owes. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => outOf (xIn m) c
  Φ t := match t with
    | ⟨0, _⟩ => start (xIn m) c
    | ⟨_ + 1, _⟩ => ended c
  q _ := fullShare
  owed t := match t with
    | ⟨0, _⟩ => O₀ c
    | ⟨_ + 1, _⟩ => 0

/-! ## The body obligation -/

/-- Owning the input's staging buffer is holding all its elements; -/
theorem staged_in (c : Dev nD) (f : S1024x1024.Idx → Elt F .f32) :
    (owns (c : Thread nD τ) (Memref.whole cc0_stg0_0) fullShare f : sProp 𝕄) = xPts c Finset.univ f := owns_whole (c : Thread nD τ) cc0_stg0_0 fullShare f
/-- likewise the output's. -/
theorem staged_out (c : Dev nD) (f : S2048x512.Idx → Elt F .f32) :
    (owns (c : Thread nD τ) (Memref.whole cc0_stg1_0) fullShare f : sProp 𝕄) = oPts c Finset.univ f := owns_whole (c : Thread nD τ) cc0_stg1_0 fullShare f

/-- Before the body the input's staging buffer holds the fetched block. -/
theorem before_in (c : Dev nD) (d) : (dats m 0 c).before (0 : Fin 2) t0_0 d = xIn m c := by
  unfold Dat.before; rw [if_pos (fetch0_0 t0_0)]; rfl

/-- What the pipeline hands the body, and what it takes back, with the staging buffers written out. -/
def bodyPre (c : Dev nD) : sProp 𝕄 :=
  iprop(start (xIn m) c ∗ (dats m 0 c).owesAt () t0_0.castSucc
    ∗ (∃ d, owns (c : Thread nD τ) (Memref.whole cc0_stg0_0) fullShare ((dats m 0 c).before (0 : Fin 2) t0_0 d))
    ∗ (∃ d, owns (c : Thread nD τ) (Memref.whole cc0_stg1_0) fullShare ((dats m 0 c).before (1 : Fin 2) t0_0 d)))
/-- What the pipeline takes back from the body. -/
def bodyPost (c : Dev nD) : sProp 𝕄 :=
  iprop(ended c ∗ (dats m 0 c).owesAt () t0_0.succ
    ∗ owns (c : Thread nD τ) (Memref.whole cc0_stg0_0) fullShare (xIn m c) ∗ owns (c : Thread nD τ) (Memref.whole cc0_stg1_0) fullShare (outOf (xIn m) c))

/-- The body runs from the one to the other, -/
theorem body_sound (c : Dev nD) :
    bodyPre m c ⊢ runs c (cc0_body (Memref.whole cc0_stg0_0) (Memref.isWhole_whole _) (Memref.whole cc0_stg1_0) (Memref.isWhole_whole _)
      cc0_scratch0 cc0_scratch1 cc0_scratch2 cc0_scratch3) fun _ => bodyPost m c := by
  rw [show cc0_body (F := F) (Memref.whole cc0_stg0_0) (Memref.isWhole_whole _) (Memref.whole cc0_stg1_0) (Memref.isWhole_whole _)
      cc0_scratch0 cc0_scratch1 cc0_scratch2 cc0_scratch3 = .op .deviceId fun d => bodyG d from body_eq]
  unfold runs
  rw [wp_deviceId]
  unfold bodyPre Dat.owesAt Pipeline.owesWithin
  rw [show (dats m 0 c).owed t0_0.castSucc = dues ((barC (Y c), 1) :: (barC (X c), 1) :: (dueY (Y c) all17 ++ dueX (X c) all16)) from rfl]
  iintro ⟨Hs, ⟨%W, %hW, HO⟩, ⟨%d, Hx⟩, ⟨%d', Ho⟩⟩
  ihave Hx' := (Entails.of_eq ((congrArg (fun f => owns (c : Thread nD τ) (Memref.whole cc0_stg0_0) fullShare f) (before_in m c d)).trans (staged_in c (xIn m c)))) $$ Hx
  ihave Ho' := (Entails.of_eq (staged_out (F := F) c _)) $$ Ho
  have h := body_run (xIn m) c ((dats m 0 c).before (1 : Fin 2) t0_0 d') (fun _ => bodyPost m c)
  unfold runs at h
  iapply h $$ [Hs Hx' Ho' HO]
  · isplitl [Hs]; · iexact Hs
    isplitl [Hx']; · iexact Hx'
    isplitl [Ho']; · iexact Ho'
    unfold owing
    iexists W; iexact HO
  unfold owing bodyPost Dat.owesAt Pipeline.owesWithin
  rw [show (dats m 0 c).owed t0_0.succ = dues [] from rfl, staged_in, staged_out]
  iintro ⟨He, Hx, Ho, ⟨%W', HO⟩⟩
  isplitl [He]; · iexact He
  isplitl [HO]
  · iexists W'
    isplitr; · ipureintro; exact fun _ _ => Or.inl trivial
    iexact HO
  isplitl [Hx]; · iexact Hx
  iexact Ho

set_option maxRecDepth 20000 in
/-- which is the obligation the pipeline asks of it. -/
theorem body_obligation (c : Dev nD) : BodyObligation (dats (F := F) m 0 c) (defs₀ (F := F)) 𝒱₀ () Set.univ := fun t => by
  rw [fin_N0 t]
  rw [show (∀ Φ : Fin cfg0.W → sProp 𝕄, bigSep Finset.univ Φ = iprop(Φ (0 : Fin 2) ∗ Φ (1 : Fin 2))) from fun Φ => bigSep_W0 Φ]
  rw [show (∀ Φ : Fin cfg0.W → sProp 𝕄, bigSep Finset.univ Φ = iprop(Φ (0 : Fin 2) ∗ Φ (1 : Fin 2))) from fun Φ => bigSep_W0 Φ]
  exact body_sound m c

/-! ## The ghost state at launch -/

/-- The kernel's own semaphores are the transfer semaphores. -/
theorem ownSemFacts : Pipeline.OwnSemFacts cfg0.spec osem := by decide +kernel

set_option maxRecDepth 20000 in
/-- Different cells of a device have different semaphores, -/
theorem csem_injective : Function.Injective csem := by decide +kernel
/-- so that all cells are different. -/
theorem kcell_injective : Function.Injective kcell := fun ⟨c, k⟩ ⟨c', k'⟩ h =>
  Prod.ext (congrArg (fun g : GSem nD τ sig => g.1.1) h) (csem_injective (congrArg Prod.snd h))
/-- All cells. -/
def allCells : Finset (GSem nD τ sig) := Finset.univ.map ⟨kcell, kcell_injective⟩

/-- A device's own duties: two at its barrier, one at each transfer cell. -/
def dutyOf (x : Dev nD × (Bool ⊕ KX)) : GSem nD τ sig × ℕ × Bool := match x.2 with
  | .inl b => (barC x.1, 0, b)
  | .inr k => (((x.1 : Thread nD τ), osem k), 0, false)
set_option maxRecDepth 20000 in
/-- No duty is listed twice. -/
theorem dutyOf_injective : Function.Injective dutyOf := by
  have hd : ∀ x : Dev nD × (Bool ⊕ KX), (dutyOf x).1.1.1 = x.1 := by rintro ⟨c, b | k⟩ <;> rfl
  have hs : Function.Injective fun k : Bool ⊕ KX => ((dutyOf (0, k)).1.2, (dutyOf (0, k)).2.2) := by decide +kernel
  rintro ⟨c, k⟩ ⟨c', k'⟩ h
  have e : c = c' := (hd (c, k)).symm.trans ((congrArg (fun x => x.1.1.1) h).trans (hd (c', k')))
  subst e
  refine Prod.ext rfl (hs ?_)
  have hk : ∀ k, ((dutyOf (c, k)).1.2, (dutyOf (c, k)).2.2) = ((dutyOf (0, k)).1.2, (dutyOf (0, k)).2.2) := by rintro (b | k) <;> rfl
  show ((dutyOf (0, k)).1.2, (dutyOf (0, k)).2.2) = ((dutyOf (0, k')).1.2, (dutyOf (0, k')).2.2)
  rw [← hk, ← hk, h]
/-- All duties. -/
def allDuties : Finset (GSem nD τ sig × ℕ × Bool) := Finset.univ.map ⟨dutyOf, dutyOf_injective⟩

/-- The ghost state the launch starts from. -/
def u₀ : UU := (initOf (Pipeline.cells cfgs cellOf_inj) (Pipeline.launchToks cfgs cellOf_inj), initOf allCells allDuties)

/-- The tokens of a device's own cells. -/
def toks (c : Dev nD) : sProp 𝕄 :=
  iprop((dutyTok ER (barC c) 0 false ∗ dutyTok ER (barC c) 0 true)
    ∗ ((bigSep Finset.univ fun i : Fin 17 => tok (F := F) c (ySend i)) ∗ bigSep Finset.univ fun i : Fin 17 => tok (F := F) c (yRecv i))
    ∗ ((bigSep Finset.univ fun j : Fin 16 => tok (F := F) c (xSend j)) ∗ bigSep Finset.univ fun j : Fin 16 => tok (F := F) c (xRecv j)))

/-- What the launch deals a device, and what it makes of it. -/
def G (c : Dev nD) : sProp 𝕄 :=
  iprop((bigSep Finset.univ fun k : CK => roundState ER (Rd (xIn m)) (kcell (c, k)) 0)
    ∗ (poss c ∗ bigSep Finset.univ fun k : CK => reached ER (kcell (c, k)) 0) ∗ toks c)
/-- What it makes of it: the records, its positions and the tokens of the duties it pays. -/
def G' (c : Dev nD) : sProp 𝕄 := iprop(records (xIn m) ∗ poss c ∗ payToks c)

/-- The ghost state of the rounds, dealt to the devices. -/
theorem fund : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]
    refine bigSep_congr fun c _ => ?_
    unfold toks
    rw [bigSep_univ_sum, bigSep_univ_sum, bigSep_univ_sum, bigSep_univ_sum, bigSep_univ_eq_bigSepL [false, true] (by decide) (by decide), bigSepL_cons_cons, bigSepL_singleton]
    rfl
  iintro H
  imod (Rounds.fund ER (Rd (xIn m)) allCells allDuties) $$ H with ⟨Hst, Hr, Hat, Ht⟩
  imodintro
  ihave Hst' := (Entails.of_eq (hX fun g => roundState ER (Rd (xIn m)) g 0)) $$ Hst
  ihave Hat' := (Entails.of_eq (hX fun g => atPos ER g 0 ∅ 0)) $$ Hat
  ihave Hr' := (Entails.of_eq (hX fun g => reached ER g 0)) $$ Hr
  ihave Ht' := (Entails.of_eq hT) $$ Ht
  unfold G poss; simp only [bigSep_sep']
  isplitl [Hst']; · iexact Hst'
  isplitl [Hat' Hr']
  · isplitl [Hat']; · iexact Hat'
    iexact Hr'
  iexact Ht'

/-- The barrier is the only semaphore that outlives the kernel. -/
theorem unscoped_bar (c : Dev nD) : (unscopedSems0 c : sProp 𝕄) = semVal (barC c) 0 := by
  unfold unscopedSems0; rw [bigSep_eq_bigSepL_of_eq [SemLoc.reg barS] (by decide +kernel) (by decide), bigSepL_singleton]

/-- A device puts its counters at zero and its cells' states into invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => inv (xIn m) (kcell (c, k)))
          ∗ (poss c ∗ bigSep Finset.univ fun k : CK => reached ER (kcell (c, k)) 0) ∗ toks c) := by
  unfold G
  rw [unscoped_bar]
  iintro ⟨Ho, Hb, Hst, Hat, Ht⟩
  imod (show iprop((bigSep Finset.univ fun k : CK => semVal (kcell (c, k)) 0) ∗ bigSep Finset.univ fun k : CK => roundState ER (Rd (xIn m)) (kcell (c, k)) 0)
      ⊢ (|={Set.univ}=> bigSep Finset.univ fun k : CK => inv (xIn m) (kcell (c, k)) : sProp 𝕄) from by
        rw [← bigSep_sep']
        exact (bigSep_mono fun k _ => (Rounds.body_intro ER (Rd (xIn m)) (kcell (c, k))).trans inv_alloc).trans (bigSep_fupd _ _)) $$ [Ho Hb Hst] with Hinv
  · isplitl [Ho Hb]
    · iapply (Entails.of_eq (over_CK (F := F) (fun k : CK => semVal (kcell (c, k)) 0)).symm)
      isplitl [Hb]; · iexact Hb
      unfold Pipeline.ownSems0; iexact Ho
    iexact Hst
  imodintro
  isplitl [Hinv]; · iexact Hinv
  isplitl [Hat]; · iexact Hat
  iexact Ht

/-- The exchanges along `y` and along `x`, as permutations of the devices. -/
def eqY : Dev nD ≃ Dev nD := ⟨Y, Y, Y_Y, Y_Y⟩
/-- The exchange along `x` as a permutation of the devices. -/
def eqX : Dev nD ≃ Dev nD := ⟨X, X, X_X, X_X⟩

/-- Every device passes the tokens of its arrivals, and of its barrier, to the peers that pay them. -/
theorem pass_toks : (bigSep Finset.univ fun c : Dev nD => (toks c : sProp 𝕄)) ⊢ bigSep Finset.univ fun c : Dev nD => payToks c := by
  unfold toks payToks
  simp only [bigSep_sep']
  rw [bigSep_univ_equiv eqY (fun c : Dev nD => (dutyTok ER (barC c) 0 false : sProp 𝕄)),
    bigSep_univ_equiv eqX (fun c : Dev nD => (dutyTok ER (barC c) 0 true : sProp 𝕄)),
    bigSep_univ_equiv eqY (fun c : Dev nD => bigSep Finset.univ fun i : Fin 17 => tok (F := F) c (yRecv i)),
    bigSep_univ_equiv eqX (fun c : Dev nD => bigSep Finset.univ fun j : Fin 16 => tok (F := F) c (xRecv j))]
  exact BI.Entails.refl _

/-- The devices' invariants, pooled, are the records; the tokens go where they are paid from. -/
theorem regroup :
    (bigSep Finset.univ fun c : Dev nD => iprop((bigSep Finset.univ fun k : CK => inv (xIn m) (kcell (c, k)))
          ∗ (poss c ∗ bigSep Finset.univ fun k : CK => reached ER (kcell (c, k)) 0) ∗ toks c) : sProp 𝕄)
      ⊢ bigSep Finset.univ (G' m) := by
  simp only [bigSep_sep']
  iintro ⟨HI, ⟨Hat, HR⟩, Ht⟩
  ihave Ht' := (pass_toks (F := F)) $$ Ht
  iapply (bigSep_with_persistent (R := records (xIn m)) (Φ := fun c : Dev nD => iprop(poss (F := F) c ∗ payToks c)) (Ψ := G' m) fun c _ => BI.Entails.refl _)
  isplitl [HI HR]
  · unfold records
    isplitl [HI]
    · iapply (Entails.of_eq (bigSep_univ_prod (fun ck : Dev nD × CK => inv (xIn m) (kcell ck))).symm); iexact HI
    iapply (Entails.of_eq (bigSep_univ_prod (fun ck : Dev nD × CK => (reached ER (kcell ck) 0 : sProp 𝕄))).symm); iexact HR
  rw [bigSep_sep']
  isplitl [Hat]; · iexact Hat
  iexact Ht'

/-- Both steps, for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credit at launch -/

/-- What is owed to device `c`. -/
def T₀ (c : Dev nD) : CellTallies nD τ sig Unit := dues ((barC c, 1) :: (barC c, 1) :: (dueY c all17 ++ dueX c all16))

/-- All that is owed is owed to somebody. -/
theorem sum_O₀ : ∑ c, O₀ c = ∑ c, T₀ c := by
  have hO (c : Dev nD) : O₀ c = dues (dueY (Y c) all17) + dues (dueX (X c) all16) + tallyAt (barC (X c)) () 1 + tallyAt (barC (Y c)) () 1 := by
    rw [← dues_append]; rfl
  have hT (c : Dev nD) : T₀ c = dues (dueY c all17) + dues (dueX c all16) + tallyAt (barC c) () 1 + tallyAt (barC c) () 1 := by
    rw [← dues_append]; rfl
  simp only [hO, hT, Finset.sum_add_distrib]
  have hY (f : Dev nD → CellTallies nD τ sig Unit) : ∑ c, f (Y c) = ∑ c, f c := Equiv.sum_comp eqY f
  have hX (f : Dev nD → CellTallies nD τ sig Unit) : ∑ c, f (X c) = ∑ c, f c := Equiv.sum_comp eqX f
  rw [hY fun c => dues (dueY c all17), hX fun c => dues (dueX c all16), hX fun c => tallyAt (barC c) () 1, hY fun c => tallyAt (barC c) () 1]

/-- What is owed to a device is owed at its own cells. -/
theorem T₀_own (c : Dev nD) (g : GSem nD τ sig) (h : T₀ c g ≠ 0) : g.1 = (c.tc : Thread nD τ) := by
  have h' : 0 < T₀ c g () := Nat.pos_of_ne_zero fun e => h (Finsupp.ext fun u => e)
  obtain ⟨p, hp, rfl⟩ := dues_pos h'
  rcases List.mem_cons.mp hp with rfl | hp
  · rfl
  rcases List.mem_cons.mp hp with rfl | hp
  · rfl
  rcases List.mem_append.mp hp with hp | hp <;> (obtain ⟨i, -, rfl⟩ := List.mem_map.mp hp; rfl)

/-- A credit for a list of dues is a list of credits. -/
theorem cred_dues (l : List (GSem nD τ sig × ℕ)) : (cred (dues l) : sProp 𝕄) ⊢ bigSepL l fun p => cred (tallyAt p.1 () p.2) := by
  induction l with
  | nil => exact Entails.of_eq cred_zero
  | cons p l ih =>
    rw [bigSepL_cons']
    refine ((cred_add (dues l) (tallyAt p.1 () p.2)).1).trans ?_
    iintro ⟨H, Hp⟩
    isplitl [Hp]; · iexact Hp
    iapply ih; iexact H

/-- The credit dealt at launch is that of the barrier and of every arrival. -/
theorem launch_creds (c : Dev nD) : (Pipeline.launchCred O₀ c : sProp 𝕄) ⊢ creds c := by
  rw [Pipeline.launchCred_of_sum O₀ T₀ sum_O₀ T₀_own c]
  have h : T₀ c = dues (dueY c all17 ++ dueX c all16) + tallyAt (barC c) () 2 := by
    rw [← tallyAt_add (barC c) () 1 1, ← add_assoc]; rfl
  rw [h]
  refine ((cred_add _ _).1).trans ?_
  unfold creds crd
  rw [univ17, univ16]
  iintro ⟨H, Hb⟩
  isplitl [Hb]; · iexact Hb
  ihave H' := (cred_dues (F := F) _) $$ H
  ihave H'' := (Entails.of_eq (show bigSepL (dueY c all17 ++ dueX c all16) (fun p => (cred (tallyAt p.1 () p.2) : sProp 𝕄))
      = iprop(bigSepL all17 (fun i => cred (tallyAt (cell c (yRecv i)) () N32)) ∗ bigSepL all16 (fun j => cred (tallyAt (cell c (xRecv j)) () (NX j)))) from by
    unfold dueY dueX; rw [bigSepL_append, bigSepL_map (l := all17), bigSepL_map (l := all16)])) $$ H'
  iexact H''

/-! ## The launch -/

/-- The staged arrays are held whole. -/
theorem share_eq (c : Dev nD) (w : Fin cfg0.W) : (dats m 0 c).share w = fullShare := by unfold Dat.share; split <;> rfl

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (xIn m) c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- Entering the kernel, -/
theorem enter (c : Dev nD) :
    iprop(start (xIn m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start (xIn m) c from rfl]
  iintro ⟨Hs, -, -⟩
  iexact Hs

/-- and leaving it. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = ended c from rfl, scopedRest0_eq, unscoped_bar]
  unfold ended Pipeline.ownSems0
  iintro ⟨Hz, Hb⟩
  isplitl [Hb]; · iexact Hb
  isplitl [Hz]; · iexact Hz
  iempintro

/-- The pipeline's own waits come below everything a device owes. -/
theorem stage_wait (c : Dev nD) (sm : SemLoc sig) (h : (part sm).lev ≤ 0) (T : CellTallies nD τ sig Unit) (hT : T = O₀ c ∨ T = 0) :
    (levAts L lv : sProp 𝕄) ⊢ MayWait (c : Thread nD τ) sm () T := by
  rcases hT with rfl | rfl
  · refine mayWait c sm _ 0 h fun p hp => ?_
    rcases List.mem_cons.mp hp with rfl | hp
    · exact ⟨rfl, show 0 < Part.bar.lev by decide⟩
    rcases List.mem_cons.mp hp with rfl | hp
    · exact ⟨rfl, show 0 < Part.bar.lev by decide⟩
    rcases List.mem_append.mp hp with hp | hp
    · exact ⟨(mem_dueY hp).1, by rw [(mem_dueY hp).2]; decide⟩
    · exact ⟨(mem_dueX hp).1, by rw [(mem_dueX hp).2]; decide⟩
  · exact mayWait c sm [] 0 h fun p hp => absurd hp List.not_mem_nil

/-- So the pipeline may wait on its own semaphores. -/
theorem waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> decide) _ (by
      rcases t with ⟨_ | _, ht⟩
      · exact Or.inl rfl
      · exact Or.inr rfl)

/-! ## The run -/

/-- An array after the run. -/
def finalA (c : Dev nD) (w : Fin cfg0.W) : Buf (Elt F) ((cfg0.win w).arr.view.loc (c : Thread nD τ)) := (dats m 0 c).arrAt w cfg0.N

set_option maxRecDepth 8000 in
/-- Every weakly fair execution on the mesh terminates, from any memory with zero counters; at the end each array is what the proof data says and every
    semaphore counter is zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start (xIn m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KProof

end
-- ==== Proof.Value.lean ====
/-
The contents the run leaves, and the claims.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The arrays after the run -/

variable (m : (ℓ : Loc nD τ sig) → Buf (Elt F) ℓ) (ρ : Dev nD → PrngReg)

/-- The staged input is the whole argument array. -/
theorem xIn_eq (c : Dev nD) : xIn m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) (m ((c : Thread nD τ).loc main_arg0))

/-- The argument array is not written. -/
theorem arg_end (c : Dev nD) : finalA m c (0 : Fin 2) = m ((c : Thread nD τ).loc main_arg0) := (dats (F := F) m 0 c).arrAt_in (0 : Fin 2) rfl _

/-- The result array ends at `outOf`. -/
theorem out_end (c : Dev nD) : finalA m c (1 : Fin 2) = outOf (xIn m) c := by
  have h : (win0_1.blk (0 : Fin 1)).view.read (Elt F) (finalA m c (1 : Fin 2)) = outOf (xIn m) c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  have hr := Memref.read_access_unit_zero (Elt F) main_v1 (off := fun a => (win0_1.index (0 : Fin 1)) a * main_v1.ty.shape.size a)
    (funext fun a => by fin_cases a <;> decide) (fun a => by fin_cases a <;> decide) (finalA m c (1 : Fin 2))
  exact hr.symm.trans h

/-! ## The blocks of the whole array -/

/-- The device that fills a row of the output holds the block of rows it lies in. -/
theorem srcDev_half (c : Dev nD) (r : ℕ) (h : r < 2048) : (srcDev c r).val % 2 = r / 1024 := by
  have hY := Y_mod c; have hYX := Y_mod (X c); have hX := X_mod c
  have hc := dev_lt c
  unfold srcDev
  by_cases e : r / 1024 = c.val % 2
  · rw [if_pos e, e]
  rw [if_neg e]
  split <;> split <;> omega

/-- With each device's input its block of rows of one array, the contents `outOf` are the device's block of columns. -/
theorem out_block (v : (⟨2, ![2048, 1024]⟩ : Shape).Idx → Elt F .f32) (xs : Dev nD → S1024x1024.Idx → Elt F .f32)
    (h : ∀ c, xs c = Layout.blockN ⟨2, ![1024, 1024]⟩ ⟨2, ![2048, 1024]⟩ (Layout.meshBlock [2, 2] ![[1], []] c) v) (c : Dev nD) :
    outOf xs c = Layout.blockN ⟨2, ![2048, 512]⟩ ⟨2, ![2048, 1024]⟩ (Layout.meshBlock [2, 2] ![[], [1]] c) v := by
  funext i
  unfold outOf
  rw [h, Layout.blockN_apply, Layout.blockN_apply]
  have hr := row_lt i; have hk := col_lt i; have hc := dev_lt c
  refine congrArg v (funext fun a => Fin.ext ?_)
  rw [Layout.TilesN.idx_val, Layout.TilesN.idx_val]
  match a with
  | ⟨0, _⟩ =>
    have hs := srcDev_half c (i 0).val hr
    show ((srcDev c (i 0).val).val / 1 % 2 * 1 + 0) * 1024 + (i 0).val % 1024 = 0 * 2048 + (i 0).val
    rw [Nat.div_one]; omega
  | ⟨1, _⟩ =>
    show 0 * 1024 + (512 * (c.val % 2) + (i 1).val) % 1024 = (c.val / 1 % 2 * 1 + 0) * 512 + (i 1).val
    rw [Nat.div_one]; omega

/-! ## The claims -/

/-- The kernel and its idealized program run the same body at the one label they have. -/
theorem bodies_eq : Cert.Kernel.defs₀ (F := Bits) = Cert.KernelIdeal.defs₀ (F := Bits) := by
  refine congrArg (Defs.onTc (nD := nD) (τ := τ) (sig := sig) (Val := Elt Bits) (Λ := Λ₀)) ?_
  funext ℓ a
  match ℓ, a with
  | ⟨0, _⟩, (t, s) => rfl

/-- The two programs have the same body table. -/
theorem tables_eq : Cert.Kernel.defs (F := Bits) = Cert.KernelIdeal.defs (F := Bits) :=
  congrArg (Pipeline.defs (Cert.KernelIdeal.pcfgs (F := Bits))) bodies_eq

/-- Every run of the kernel ends, leaves its argument as it found it and every counter at zero. -/
theorem frame_kernel : Cert.quiescent_Kernel := fun m ρ _ => by
  have h : θ_run Cert.KernelIdeal.defs (onTc (τ := τ) (main (F := Bits))) ⟨m, fun _ => 0, ρ⟩
      (fun r => (∀ c : Dev nD, r.2.mem ((c.tc : Thread nD τ).loc main_arg0) = m ((c.tc : Thread nD τ).loc main_arg0)) ∧ r.2.sem = fun _ => 0) :=
    (θ_run Cert.KernelIdeal.defs _ _).mono (fun _ h => ⟨fun c => (h.1 c (0 : Fin 2)).trans (arg_end m c), h.2⟩) (run_main (F := Bits) m ρ)
  rw [← tables_eq] at h
  exact h

/-- So does every run of the idealized program. -/
theorem frame_ideal : Cert.quiescent_KernelIdeal := fun m ρ _ =>
  (θ_run Cert.KernelIdeal.defs _ _).mono (fun _ h => ⟨fun c => (h.1 c (0 : Fin 2)).trans (arg_end m c), h.2⟩) (run_main (F := Ideal) m ρ)

/-- The reference returns its argument: it runs, and nothing changes. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl) (fun _ => trivial) m ρ)

/-- Every run of the reference ends and leaves its argument as it found it. -/
theorem frame_reference : Cert.quiescent_ReferenceIdeal := fun m ρ _ =>
  (θ_run Cert.ReferenceIdeal.defs _ _).mono (fun r h => ⟨h, sem_eq_zero_of_no_sems (by decide) r.2⟩) (reference_run m ρ)

/-- The kernel re-cuts the whole array from blocks of rows to blocks of columns. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c (1 : Fin 2)).trans ((out_end m c).trans (out_block _ (xIn m) (fun e => (xIn_eq m e).trans (hm e)) c)),
      (h.1 c (0 : Fin 2)).trans (arg_end m c)⟩) (run_main (F := Ideal) m ρ),
    (θ_run Cert.ReferenceIdeal.defs _ _).mono (fun _ h => ⟨h 0, h 0⟩) (reference_run m' ρ')⟩

end Cert.KProof

end
-- ==== Proof.lean ====
/-
The certificate's claims, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the idealized program being the kernel's own, and the kernel's result being the reference's. -/
theorem claim : Cert.Claim := ⟨Cert.Kernel.Gen.facts, Cert.KernelIdeal.Gen.facts, Cert.ReferenceIdeal.Gen.facts,
  KProof.frame_kernel, KProof.frame_ideal, KProof.frame_reference, trivial, KProof.value⟩

end Cert.Proof

end
